-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_experts_exist_KernelIdeal [hPre_experts_exist_KernelIdeal : Cert.Pre_experts_exist_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_experts_exist_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_exist_ReferenceIdeal [hPre_experts_exist_ReferenceIdeal : Cert.Pre_experts_exist_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_exist_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_experts_exist_KernelIdeal [hKernelIdeal : Cert.KernelIdeal.Facts] [hPre_experts_exist_KernelIdeal : Cert.Pre_experts_exist_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_experts_exist_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_experts_exist_ReferenceIdeal [hReferenceIdeal : Cert.ReferenceIdeal.Facts] [hPre_experts_exist_ReferenceIdeal : Cert.Pre_experts_exist_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_exist_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_experts_exist_KernelIdeal [hKernelIdeal : Cert.KernelIdeal.Facts] [hReferenceIdeal : Cert.ReferenceIdeal.Facts] [hPre_experts_exist_KernelIdeal : Cert.Pre_experts_exist_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_experts_exist_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![8, 128, 256]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_experts_exist_KernelIdeal : Cert.Pre_experts_exist_KernelIdeal.Facts) (hPre_experts_exist_ReferenceIdeal : Cert.Pre_experts_exist_ReferenceIdeal.Facts),
    quiescent_Kernel (hKernel := hKernel)
    ∧ quiescent_KernelIdeal (hKernelIdeal := hKernelIdeal)
    ∧ quiescent_KernelIdeal_pre_experts_exist_KernelIdeal (hKernelIdeal := hKernelIdeal) (hPre_experts_exist_KernelIdeal := hPre_experts_exist_KernelIdeal)
    ∧ quiescent_ReferenceIdeal (hReferenceIdeal := hReferenceIdeal)
    ∧ quiescent_ReferenceIdeal_pre_experts_exist_ReferenceIdeal (hReferenceIdeal := hReferenceIdeal) (hPre_experts_exist_ReferenceIdeal := hPre_experts_exist_ReferenceIdeal)
    ∧ preserves_Kernel_KernelIdeal
    ∧ algebraic_KernelIdeal_ReferenceIdeal_pre_experts_exist_KernelIdeal (hKernelIdeal := hKernelIdeal) (hReferenceIdeal := hReferenceIdeal) (hPre_experts_exist_KernelIdeal := hPre_experts_exist_KernelIdeal)
-- ==== Pre_experts_exist_KernelIdeal.lean ====
abbrev S256x128 : Shape := ⟨2, ![256, 128]⟩
abbrev S128x8 : Shape := ⟨2, ![128, 8]⟩
abbrev S256x1 : Shape := ⟨2, ![256, 1]⟩
abbrev S2x128x256 : Shape := ⟨3, ![2, 128, 256]⟩
abbrev S_ : Shape := ⟨0, ![]⟩

class Facts : Prop where
  bcast_S_S256x1 : S_.BroadcastsInDim S256x1 (![] : Fin 0 → Fin S256x1.rank)
  reducesTo_S256x1_S_d0_1 : S256x1.ReducesTo [0, 1] S_
  h_S_ : 0 < S_.numel

variable [Facts]

def fn {F : FTy → Type} [FloatOps F] (main_arg0 : FVec F S256x128 .bf16) (main_arg1 : FVec F S128x8 .bf16) (main_arg2 : IVec S256x1 32) (main_arg3 : FVec F S2x128x256 .bf16) : IVec S_ 1 :=
  let main_c : IVec S_ 32 := constantI S_ 32 0#32
  let main_v0 : IVec S256x1 32 := broadcastInDim S256x1 ![] bcast_S_S256x1 main_c
  let main_v1 : IVec S256x1 1 := cmpi .sge main_arg2 main_v0
  let main_c_0 : IVec S_ 32 := constantI S_ 32 8#32
  let main_v2 : IVec S256x1 32 := broadcastInDim S256x1 ![] bcast_S_S256x1 main_c_0
  let main_v3 : IVec S256x1 1 := cmpi .slt main_arg2 main_v2
  let main_v4 : IVec S256x1 1 := andi main_v1 main_v3
  let main_c_1 : IVec S_ 1 := constantI S_ 1 1#1
  let main_v5 : IVec S_ 1 := (fun x v => Host.reduce IntOp.andi x v reducesTo_S256x1_S_d0_1 h_S_) main_v4 main_c_1
  main_v5
-- ==== Pre_experts_exist_ReferenceIdeal.lean ====
abbrev S256x128 : Shape := ⟨2, ![256, 128]⟩
abbrev S128x8 : Shape := ⟨2, ![128, 8]⟩
abbrev S256x1 : Shape := ⟨2, ![256, 1]⟩
abbrev S8x128x256 : Shape := ⟨3, ![8, 128, 256]⟩
abbrev S_ : Shape := ⟨0, ![]⟩

class Facts : Prop where
  bcast_S_S256x1 : S_.BroadcastsInDim S256x1 (![] : Fin 0 → Fin S256x1.rank)
  reducesTo_S256x1_S_d0_1 : S256x1.ReducesTo [0, 1] S_
  h_S_ : 0 < S_.numel

variable [Facts]

def fn {F : FTy → Type} [FloatOps F] (main_arg0 : FVec F S256x128 .bf16) (main_arg1 : FVec F S128x8 .bf16) (main_arg2 : IVec S256x1 32) (main_arg3 : FVec F S8x128x256 .bf16) : IVec S_ 1 :=
  let main_c : IVec S_ 32 := constantI S_ 32 0#32
  let main_v0 : IVec S256x1 32 := broadcastInDim S256x1 ![] bcast_S_S256x1 main_c
  let main_v1 : IVec S256x1 1 := cmpi .sge main_arg2 main_v0
  let main_c_0 : IVec S_ 32 := constantI S_ 32 8#32
  let main_v2 : IVec S256x1 32 := broadcastInDim S256x1 ![] bcast_S_S256x1 main_c_0
  let main_v3 : IVec S256x1 1 := cmpi .slt main_arg2 main_v2
  let main_v4 : IVec S256x1 1 := andi main_v1 main_v3
  let main_c_1 : IVec S_ 1 := constantI S_ 1 1#1
  let main_v5 : IVec S_ 1 := (fun x v => Host.reduce IntOp.andi x v reducesTo_S256x1_S_d0_1 h_S_) main_v4 main_c_1
  main_v5
-- ==== Kernel.lean ====
abbrev S256x128 : Shape := ⟨2, ![256, 128]⟩
abbrev S128x8 : Shape := ⟨2, ![128, 8]⟩
abbrev S256x1 : Shape := ⟨2, ![256, 1]⟩
abbrev S2x128x256 : Shape := ⟨3, ![2, 128, 256]⟩
abbrev S256x256 : Shape := ⟨2, ![256, 256]⟩
abbrev S3 : Shape := ⟨1, ![3]⟩
abbrev S4 : Shape := ⟨1, ![4]⟩
abbrev S_ : Shape := ⟨0, ![]⟩
abbrev S1x8 : Shape := ⟨2, ![1, 8]⟩
abbrev S256x8 : Shape := ⟨2, ![256, 8]⟩
abbrev S256 : Shape := ⟨1, ![256]⟩
abbrev S256x64 : Shape := ⟨2, ![256, 64]⟩
abbrev S64x128 : Shape := ⟨2, ![64, 128]⟩
abbrev S32x128 : Shape := ⟨2, ![32, 128]⟩
abbrev S1x128x256 : Shape := ⟨3, ![1, 128, 256]⟩
abbrev S128x256 : Shape := ⟨2, ![128, 256]⟩
abbrev S32x256 : Shape := ⟨2, ![32, 256]⟩
abbrev S1 : Shape := ⟨1, ![1]⟩
abbrev S64x256 : Shape := ⟨2, ![64, 256]⟩

abbrev nBuf : Space → Nat
  | .hbm => 5
  | .vmem => 5
  | .smem => 0
  | _ => 0

abbrev bufTy : (tb : Table) → Fin (tcTables nBuf tb) → BufTy
  | .hbm, ⟨0, _⟩ => ⟨S256x128, .bf16⟩
  | .hbm, ⟨1, _⟩ => ⟨S128x8, .bf16⟩
  | .hbm, ⟨2, _⟩ => ⟨S256x1, .i32⟩
  | .hbm, ⟨3, _⟩ => ⟨S2x128x256, .bf16⟩
  | .hbm, ⟨4, _⟩ => ⟨S256x256, .f32⟩
  | .local _ .vmem, ⟨0, _⟩ => ⟨S256x128, .bf16⟩
  | .local _ .vmem, ⟨1, _⟩ => ⟨S256x1, .i32⟩
  | .local _ .vmem, ⟨2, _⟩ => ⟨S2x128x256, .bf16⟩
  | .local _ .vmem, ⟨3, _⟩ => ⟨S256x256, .f32⟩
  | .local _ .vmem, ⟨4, _⟩ => ⟨S256x256, .bf16⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c0_i32_39 : BitVec 32) : Fin 2 → Nat :=
  let c64_i32_34 : BitVec 32 := 64#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v86 : BitVec 32 := Scalar.muli c64_i32_34 v2
  let v92 : BitVec 32 := Scalar.addi v86 c0_i32_39
  let v93 : Index := Scalar.indexCast v92
  let c0_40 : Index := 0#32
  ![v93.toNat, 0]
def k0_off2 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off3 (d0 : Dev nD) : Fin 2 → Nat :=
  let c64_i32_34 : BitVec 32 := 64#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v86 : BitVec 32 := Scalar.muli c64_i32_34 v2
  let c0_i32_57 : BitVec 32 := 0#32
  ![v86.toNat, 0]
def k0_dev4 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_47 : BitVec 32 := 1#32
  let v107 : BitVec 32 := Scalar.addi v2 c1_i32_47
  let c4_i32_48 : BitVec 32 := 4#32
  let c0_i32_49 : BitVec 32 := 0#32
  let v108 : BitVec 1 := Scalar.cmpi .eq c4_i32_48 c0_i32_49
  let c1_i32_50 : BitVec 32 := 1#32
  let v109 : BitVec 32 := Scalar.select v108 c1_i32_50 c4_i32_48
  let v110 : BitVec 32 := Scalar.remsi v107 v109
  let c0_i32_52 : BitVec 32 := 0#32
  let v112 : BitVec 1 := Scalar.cmpi .slt v110 c0_i32_52
  let c0_i32_53 : BitVec 32 := 0#32
  let v113 : BitVec 1 := Scalar.cmpi .slt v109 c0_i32_53
  let v114 : BitVec 1 := Scalar.xori v112 v113
  let c0_i32_51 : BitVec 32 := 0#32
  let v111 : BitVec 1 := Scalar.cmpi .ne v110 c0_i32_51
  let v115 : BitVec 1 := Scalar.andi v114 v111
  let v116 : BitVec 32 := Scalar.addi v110 v109
  let v117 : BitVec 32 := Scalar.select v115 v116 v110
  let c1_i32_55 : BitVec 32 := 1#32
  let v118 : BitVec 32 := Scalar.muli v117 c1_i32_55
  let v119 : BitVec 32 := Scalar.addi c0_i32_56 v118
  v119.toNat
def k0_dev5 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_59 : BitVec 32 := 2#32
  let v126 : BitVec 32 := Scalar.addi v2 c2_i32_59
  let c4_i32_60 : BitVec 32 := 4#32
  let c0_i32_61 : BitVec 32 := 0#32
  let v127 : BitVec 1 := Scalar.cmpi .eq c4_i32_60 c0_i32_61
  let c1_i32_62 : BitVec 32 := 1#32
  let v128 : BitVec 32 := Scalar.select v127 c1_i32_62 c4_i32_60
  let v129 : BitVec 32 := Scalar.remsi v126 v128
  let c0_i32_64 : BitVec 32 := 0#32
  let v131 : BitVec 1 := Scalar.cmpi .slt v129 c0_i32_64
  let c0_i32_65 : BitVec 32 := 0#32
  let v132 : BitVec 1 := Scalar.cmpi .slt v128 c0_i32_65
  let v133 : BitVec 1 := Scalar.xori v131 v132
  let c0_i32_63 : BitVec 32 := 0#32
  let v130 : BitVec 1 := Scalar.cmpi .ne v129 c0_i32_63
  let v134 : BitVec 1 := Scalar.andi v133 v130
  let v135 : BitVec 32 := Scalar.addi v129 v128
  let v136 : BitVec 32 := Scalar.select v134 v135 v129
  let c1_i32_67 : BitVec 32 := 1#32
  let v137 : BitVec 32 := Scalar.muli v136 c1_i32_67
  let v138 : BitVec 32 := Scalar.addi c0_i32_68 v137
  v138.toNat
def k0_dev6 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_71 : BitVec 32 := 3#32
  let v145 : BitVec 32 := Scalar.addi v2 c3_i32_71
  let c4_i32_72 : BitVec 32 := 4#32
  let c0_i32_73 : BitVec 32 := 0#32
  let v146 : BitVec 1 := Scalar.cmpi .eq c4_i32_72 c0_i32_73
  let c1_i32_74 : BitVec 32 := 1#32
  let v147 : BitVec 32 := Scalar.select v146 c1_i32_74 c4_i32_72
  let v148 : BitVec 32 := Scalar.remsi v145 v147
  let c0_i32_76 : BitVec 32 := 0#32
  let v150 : BitVec 1 := Scalar.cmpi .slt v148 c0_i32_76
  let c0_i32_77 : BitVec 32 := 0#32
  let v151 : BitVec 1 := Scalar.cmpi .slt v147 c0_i32_77
  let v152 : BitVec 1 := Scalar.xori v150 v151
  let c0_i32_75 : BitVec 32 := 0#32
  let v149 : BitVec 1 := Scalar.cmpi .ne v148 c0_i32_75
  let v153 : BitVec 1 := Scalar.andi v152 v149
  let v154 : BitVec 32 := Scalar.addi v148 v147
  let v155 : BitVec 32 := Scalar.select v153 v154 v148
  let c1_i32_79 : BitVec 32 := 1#32
  let v156 : BitVec 32 := Scalar.muli v155 c1_i32_79
  let v157 : BitVec 32 := Scalar.addi c0_i32_80 v156
  v157.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_86 : BitVec 32 := 0#32
  let v174 : BitVec 1 := Scalar.cmpi .ne v2 c0_i32_86
  let v175 : BitVec 32 := Scalar.extui v174
  let c0_i32_87 : BitVec 32 := 0#32
  let v176 : BitVec 1 := Scalar.cmpi .ne v175 c0_i32_87
  v176

def k0_off4 (d0 : Dev nD) : Fin 2 → Nat :=
  let c64_i32_34 : BitVec 32 := 64#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v86 : BitVec 32 := Scalar.muli c64_i32_34 v2
  let c0_i32_137 : BitVec 32 := 0#32
  ![v86.toNat, 0]
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_95 : BitVec 32 := 1#32
  let v184 : BitVec 1 := Scalar.cmpi .ne v2 c1_i32_95
  let v185 : BitVec 32 := Scalar.extui v184
  let c0_i32_96 : BitVec 32 := 0#32
  let v186 : BitVec 1 := Scalar.cmpi .ne v185 c0_i32_96
  v186

def k0_off5 (d0 : Dev nD) : Fin 2 → Nat :=
  let c64_i32_34 : BitVec 32 := 64#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v86 : BitVec 32 := Scalar.muli c64_i32_34 v2
  let c0_i32_137 : BitVec 32 := 0#32
  ![v86.toNat, 0]
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_103 : BitVec 32 := 2#32
  let v194 : BitVec 1 := Scalar.cmpi .ne v2 c2_i32_103
  let v195 : BitVec 32 := Scalar.extui v194
  let c0_i32_104 : BitVec 32 := 0#32
  let v196 : BitVec 1 := Scalar.cmpi .ne v195 c0_i32_104
  v196

def k0_off6 (d0 : Dev nD) : Fin 2 → Nat :=
  let c64_i32_34 : BitVec 32 := 64#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v86 : BitVec 32 := Scalar.muli c64_i32_34 v2
  let c0_i32_136 : BitVec 32 := 0#32
  ![v86.toNat, 0]
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_111 : BitVec 32 := 3#32
  let v204 : BitVec 1 := Scalar.cmpi .ne v2 c3_i32_111
  let v205 : BitVec 32 := Scalar.extui v204
  let c0_i32_112 : BitVec 32 := 0#32
  let v206 : BitVec 1 := Scalar.cmpi .ne v205 c0_i32_112
  v206

def k0_off7 (d0 : Dev nD) : Fin 2 → Nat :=
  let c64_i32_34 : BitVec 32 := 64#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v86 : BitVec 32 := Scalar.muli c64_i32_34 v2
  let c0_i32_136 : BitVec 32 := 0#32
  ![v86.toNat, 0]
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x128 : Shape := ⟨2, ![256, 128]⟩
abbrev S128x8 : Shape := ⟨2, ![128, 8]⟩
abbrev S256x1 : Shape := ⟨2, ![256, 1]⟩
abbrev S8x128x256 : Shape := ⟨3, ![8, 128, 256]⟩
abbrev S256 : Shape := ⟨1, ![256]⟩
abbrev S1x256 : Shape := ⟨2, ![1, 256]⟩
abbrev S256x256 : Shape := ⟨2, ![256, 256]⟩
abbrev S_ : Shape := ⟨0, ![]⟩
abbrev S256x128x256 : Shape := ⟨3, ![256, 128, 256]⟩

abbrev nBuf : Space → Nat
  | .hbm => 41
  | .vmem => 0
  | .smem => 0
  | _ => 0

abbrev bufTy : (tb : Table) → Fin (tcTables nBuf tb) → BufTy
  | .hbm, ⟨0, _⟩ => ⟨S256x128, .bf16⟩
  | .hbm, ⟨1, _⟩ => ⟨S128x8, .bf16⟩
  | .hbm, ⟨2, _⟩ => ⟨S256x1, .i32⟩
  | .hbm, ⟨3, _⟩ => ⟨S8x128x256, .bf16⟩
  | .hbm, ⟨4, _⟩ => ⟨S256, .i32⟩
  | .hbm, ⟨5, _⟩ => ⟨S256, .i32⟩
  | .hbm, ⟨6, _⟩ => ⟨S1x256, .i32⟩
  | .hbm, ⟨7, _⟩ => ⟨S256x1, .i32⟩
  | .hbm, ⟨8, _⟩ => ⟨S256x256, .i32⟩
  | .hbm, ⟨9, _⟩ => ⟨S256x256, .i32⟩
  | .hbm, ⟨10, _⟩ => ⟨S256x256, .i1⟩
  | .hbm, ⟨11, _⟩ => ⟨S1x256, .i32⟩
  | .hbm, ⟨12, _⟩ => ⟨S256x1, .i32⟩
  | .hbm, ⟨13, _⟩ => ⟨S256x256, .i32⟩
  | .hbm, ⟨14, _⟩ => ⟨S256x256, .i32⟩
  | .hbm, ⟨15, _⟩ => ⟨S256x256, .i1⟩
  | .hbm, ⟨16, _⟩ => ⟨S256x256, .i1⟩
  | .hbm, ⟨17, _⟩ => ⟨S256x256, .i32⟩
  | .hbm, ⟨18, _⟩ => ⟨S_, .i32⟩
  | .hbm, ⟨19, _⟩ => ⟨S256, .i32⟩
  | .hbm, ⟨20, _⟩ => ⟨S_, .i32⟩
  | .hbm, ⟨21, _⟩ => ⟨S256, .i32⟩
  | .hbm, ⟨22, _⟩ => ⟨S256, .i1⟩
  | .hbm, ⟨23, _⟩ => ⟨S_, .i32⟩
  | .hbm, ⟨24, _⟩ => ⟨S256, .i32⟩
  | .hbm, ⟨25, _⟩ => ⟨S256, .i1⟩
  | .hbm, ⟨26, _⟩ => ⟨S_, .i32⟩
  | .hbm, ⟨27, _⟩ => ⟨S256, .i32⟩
  | .hbm, ⟨28, _⟩ => ⟨S256, .i32⟩
  | .hbm, ⟨29, _⟩ => ⟨S256, .i32⟩
  | .hbm, ⟨30, _⟩ => ⟨S256x1, .i32⟩
  | .hbm, ⟨31, _⟩ => ⟨S256x128x256, .bf16⟩
  | .hbm, ⟨32, _⟩ => ⟨S256x128x256, .f32⟩
  | .hbm, ⟨33, _⟩ => ⟨S256x128, .f32⟩
  | .hbm, ⟨34, _⟩ => ⟨S256x256, .f32⟩
  | .hbm, ⟨35, _⟩ => ⟨S256x1, .i1⟩
  | .hbm, ⟨36, _⟩ => ⟨S_, .f32⟩
  | .hbm, ⟨37, _⟩ => ⟨S_, .f32⟩
  | .hbm, ⟨38, _⟩ => ⟨S256x256, .i1⟩
  | .hbm, ⟨39, _⟩ => ⟨S256x256, .f32⟩
  | .hbm, ⟨40, _⟩ => ⟨S256x256, .f32⟩
  | _, _ => ⟨S256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Proof.IdealCells.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Ring
public import Idealize.ShloMosaic.Lib.Tactic

@[expose] public section

noncomputable section

/-! # The exchange between the four devices: cells, contents, schedule

Every device signals the barrier of each of the three others, computes its own band of 64 rows of the shared buffer `g`,
waits for three barrier units, and then copies its band into the same rows of the three others' buffers. A barrier unit
that device `p` pays to device `b` hands over band `b` of `p`'s buffer, the rows `b`'s copy will overwrite there. -/

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the exchange: rounds over the cells, a duty named by one of three numbers. -/
abbrev UB : Type := URounds (GSem nD τ sig) (Fin 3)
/-- With the pipeline's own rounds beside it. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## The other three devices -/

set_option backward.proofsInPublic true in
/-- The device `k + 1` places after `c` around the four. -/
def fwd (k : Fin 3) (c : Dev nD) : Dev nD := ⟨(c.val + k.val + 1) % 4, Nat.mod_lt _ (by decide)⟩
set_option backward.proofsInPublic true in
/-- The device `k + 1` places before `c`. -/
def bwd (k : Fin 3) (c : Dev nD) : Dev nD := ⟨(c.val + 3 - k.val) % 4, Nat.mod_lt _ (by decide)⟩

theorem bwd_fwd (k : Fin 3) (c : Dev nD) : bwd k (fwd k c) = c := by revert k c; decide
theorem fwd_bwd (k : Fin 3) (c : Dev nD) : fwd k (bwd k c) = c := by revert k c; decide
theorem fwd_ne (k : Fin 3) (c : Dev nD) : fwd k c ≠ c := by revert k c; decide
theorem bwd_ne (k : Fin 3) (c : Dev nD) : bwd k c ≠ c := by revert k c; decide
theorem bwd0 (c : Dev nD) : bwd 0 c = fwd 2 c := by revert c; decide
theorem bwd1 (c : Dev nD) : bwd 1 c = fwd 1 c := by revert c; decide
theorem bwd2 (c : Dev nD) : bwd 2 c = fwd 0 c := by revert c; decide

/-- Going `k + 1` places on is a rearrangement of the devices. -/
def rot (k : Fin 3) : Dev nD ≃ Dev nD := ⟨fwd k, bwd k, bwd_fwd k, fwd_bwd k⟩

/-- The three signals address the three other devices, nearest first. -/
theorem dev1_eq (c : Dev nD) : (⟨k0_dev1 c, k0_dev1_lt c⟩ : Dev nD) = fwd 0 c := by revert c; decide +kernel
theorem dev2_eq (c : Dev nD) : (⟨k0_dev2 c, k0_dev2_lt c⟩ : Dev nD) = fwd 1 c := by revert c; decide +kernel
theorem dev3_eq (c : Dev nD) : (⟨k0_dev3 c, k0_dev3_lt c⟩ : Dev nD) = fwd 2 c := by revert c; decide +kernel
/-- The three copies likewise. -/
theorem dev4_eq (c : Dev nD) : (⟨k0_dev4 c, k0_dev4_lt c⟩ : Dev nD) = fwd 0 c := by revert c; decide +kernel
theorem dev5_eq (c : Dev nD) : (⟨k0_dev5 c, k0_dev5_lt c⟩ : Dev nD) = fwd 1 c := by revert c; decide +kernel
theorem dev6_eq (c : Dev nD) : (⟨k0_dev6 c, k0_dev6_lt c⟩ : Dev nD) = fwd 2 c := by revert c; decide +kernel

/-- The device itself and the three others are all four. -/
theorem devs_nodup (c : Dev nD) : [c, fwd 0 c, fwd 1 c, fwd 2 c].Nodup := by revert c; decide
theorem devs_all (c : Dev nD) : ∀ d : Dev nD, d ∈ [c, fwd 0 c, fwd 1 c, fwd 2 c] := by revert c; decide

/-- The four tests before the receive waits ask whether the band is another device's. -/
theorem cond1_iff (c : Dev nD) : k0_cond1 c = 1#1 ↔ (0 : Dev nD) ≠ c := by revert c; decide +kernel
theorem cond2_iff (c : Dev nD) : k0_cond2 c = 1#1 ↔ (1 : Dev nD) ≠ c := by revert c; decide +kernel
theorem cond3_iff (c : Dev nD) : k0_cond3 c = 1#1 ↔ (2 : Dev nD) ≠ c := by revert c; decide +kernel
theorem cond4_iff (c : Dev nD) : k0_cond4 c = 1#1 ↔ (3 : Dev nD) ≠ c := by revert c; decide +kernel

/-! ## Buffers, bands, cells -/

abbrev xM : Memref sig .tc .vmem S256x128 .bf16 := Memref.whole cc0_stg0_0
abbrev tM : Memref sig .tc .vmem S256x1 .i32 := Memref.whole cc0_stg1_0
abbrev wM : Memref sig .tc .vmem S2x128x256 .bf16 := Memref.whole cc0_stg2_0
abbrev oM : Memref sig .tc .vmem S256x256 .f32 := Memref.whole cc0_stg3_0
abbrev gM : Memref sig .tc .vmem S256x256 .bf16 := Memref.whole cc0_scratch0

/-- Rows `64 d` to `64 d + 63` of the shared buffer: device `d`'s band. -/
abbrev bandR (d : Dev nD) : Rect S256x256 := Rect.unit (s := S256x256) (k0_off3 d) S64x256.size (k0_off3_inb d)
abbrev bandM (d : Dev nD) : Memref sig .tc .vmem S64x256 .bf16 := gM.slice (bandR d) (fun _ => rfl)
/-- The elements of device `d`'s band. -/
def band (d : Dev nD) : Finset S256x256.Idx := (bandR d).set

theorem bandM_set (d : Dev nD) : (bandM d).view.set = band d := View.set_slice_whole cc0_scratch0 (bandR d)

/-- An element lies in device `d`'s band when its row over 64 is `d`. -/
theorem mem_band {d : Dev nD} {i : S256x256.Idx} : i ∈ band d ↔ (i 0).val / 64 = d.val := by
  unfold band
  rw [Rect.mem_set_unit, k0_off3_eq]
  have h0 : (i 0).val < 256 := (i 0).isLt
  have h1 : (i 1).val < 256 := (i 1).isLt
  constructor
  · intro h
    have h2 : 64 * d.val ≤ (i 0).val ∧ (i 0).val < 64 * d.val + 64 := h 0
    omega
  · intro h a
    fin_cases a
    · show 64 * d.val ≤ (i 0).val ∧ (i 0).val < 64 * d.val + 64
      omega
    · show 0 ≤ (i 1).val ∧ (i 1).val < 0 + 256
      omega

theorem band_disj : ∀ b b' : Dev nD, b ≠ b' → Disjoint (band b) (band b') := fun b b' h =>
  Finset.disjoint_left.mpr fun i hi hi' => h (Fin.ext ((mem_band.mp hi).symm.trans (mem_band.mp hi')))
theorem band_cover : Finset.univ.biUnion band = (Finset.univ : Finset S256x256.Idx) := by
  refine Finset.eq_univ_iff_forall.mpr fun i => Finset.mem_biUnion.mpr ?_
  have h0 : (i 0).val < 256 := (i 0).isLt
  exact ⟨⟨(i 0).val / 64, by show _ < 4; omega⟩, Finset.mem_univ _, mem_band.mpr rfl⟩

/-- The barrier semaphore, not scoped to the launch. -/
abbrev barS : Sem sig := (SemArray.scalar (sig.barrier 0 rfl) : Sems sig S_).sem
set_option backward.proofsInPublic true in
/-- The three send semaphores. -/
def sendS (k : Fin 3) : DmaSem sig := ⟨4 + k.val, by have := k.isLt; show _ < 11; omega⟩
set_option backward.proofsInPublic true in
/-- The four receive semaphores, one per sending device. -/
def recvS (d : Dev nD) : DmaSem sig := ⟨7 + d.val, by have : d.val < 4 := d.isLt; show _ < 11; omega⟩

theorem sendS0 : ((cc0_scratch1.slice (Rect.unit (s := S3) ![0] S1.size inb_S3_S1_0)).squeeze S_ squeezes_S1_S_).sem = sendS 0 := by decide
theorem sendS1 : ((cc0_scratch1.slice (Rect.unit (s := S3) ![1] S1.size inb_S3_S1_1)).squeeze S_ squeezes_S1_S_).sem = sendS 1 := by decide
theorem sendS2 : ((cc0_scratch1.slice (Rect.unit (s := S3) ![2] S1.size inb_S3_S1_2)).squeeze S_ squeezes_S1_S_).sem = sendS 2 := by decide
theorem recvS_dev (c : Dev nD) :
    ((cc0_scratch2.slice (Rect.unit (s := S4) (k0_off2 c) S1.size (k0_off2_inb c))).squeeze S_ squeezes_S1_S_).sem = recvS c := by
  revert c; decide +kernel
theorem recvS0 : ((cc0_scratch2.slice (Rect.unit (s := S4) ![0] S1.size inb_S4_S1_0)).squeeze S_ squeezes_S1_S_).sem = recvS 0 := by decide
theorem recvS1 : ((cc0_scratch2.slice (Rect.unit (s := S4) ![1] S1.size inb_S4_S1_1)).squeeze S_ squeezes_S1_S_).sem = recvS 1 := by decide
theorem recvS2 : ((cc0_scratch2.slice (Rect.unit (s := S4) ![2] S1.size inb_S4_S1_2)).squeeze S_ squeezes_S1_S_).sem = recvS 2 := by decide
theorem recvS3 : ((cc0_scratch2.slice (Rect.unit (s := S4) ![3] S1.size inb_S4_S1_3)).squeeze S_ squeezes_S1_S_).sem = recvS 3 := by decide

abbrev barCell (c : Dev nD) : GSem nD τ sig := ((c : Thread nD τ), .reg barS)
abbrev sendCell (c : Dev nD) (k : Fin 3) : GSem nD τ sig := ((c : Thread nD τ), .dma (sendS k))
/-- The cell on device `c` that the copy from device `d` completes. -/
abbrev recvCell (c d : Dev nD) : GSem nD τ sig := ((c : Thread nD τ), .dma (recvS d))

/-- What one copy of a band pays. -/
def N : ℕ := (bandM 0).view.dmaCredit
theorem N_pos : 0 < N := View.dmaCredit_pos _ (by decide)

/-! ## Contents -/

/-- The tokens, the routes and the two expert matrices device `c` has staged. -/
def xst (c : Dev nD) : (cc0_stg0_0 : Ref sig .tc).ty.Contents (Elt F) :=
  (win0_0.blk (0 : Fin 1)).view.read (Elt F) ((s₀ m ρ).mem ((c : Thread nD τ).loc main_arg0))
def tst (c : Dev nD) : (cc0_stg1_0 : Ref sig .tc).ty.Contents (Elt F) :=
  (win0_1.blk (0 : Fin 1)).view.read (Elt F) ((s₀ m ρ).mem ((c : Thread nD τ).loc main_arg2))
def wst (c : Dev nD) : (cc0_stg2_0 : Ref sig .tc).ty.Contents (Elt F) :=
  (win0_2.blk (0 : Fin 1)).view.read (Elt F) ((s₀ m ρ).mem ((c : Thread nD τ).loc main_arg3))

/-- Device `c`'s number, as the kernel computes it. -/
def word (c : Dev nD) : BitVec 32 := Scalar.remsi (Scalar.divsi (Dev.word c) 1#32) 4#32

abbrev rW0 : Rect S2x128x256 := Rect.unit (s := S2x128x256) ![0, 0, 0] S1x128x256.size inb_S2x128x256_S1x128x256_0_0_0
abbrev rW1 : Rect S2x128x256 := Rect.unit (s := S2x128x256) ![1, 0, 0] S1x128x256.size inb_S2x128x256_S1x128x256_1_0_0

/-- The upper and the lower half of the band a device `c` computes from tokens `x`, routes `t` and its two matrices `w`. -/
def topOf (c : Dev nD) (x : Vec F S256x128 .bf16) (t : Vec F S256x1 .i32) (w : Vec F S2x128x256 .bf16) : FVec F S32x256 .bf16 :=
  k0_pay8 (k0_pay4 t) (iota .tc S256x64 32 [1] iota_S256x64_d1_w32) (k0_pay6 (word c) t) x (wM.view.readAt (Elt F) rW0.toLoadRect w)
def botOf (c : Dev nD) (x : Vec F S256x128 .bf16) (t : Vec F S256x1 .i32) (w : Vec F S2x128x256 .bf16) : FVec F S32x256 .bf16 :=
  k0_pay9 (k0_pay4 t) (iota .tc S256x64 32 [1] iota_S256x64_d1_w32) (k0_pay6 (word c) t) x (wM.view.readAt (Elt F) rW1.toLoadRect w)

/-- The device whose band element `i` lies in. -/
def ownerOf (i : S256x256.Idx) : Dev nD := ⟨(i 0).val / 64, by have h : (i 0).val < 256 := (i 0).isLt; show _ < 4; omega⟩
/-- Element `i`'s place in the half band it lies in. -/
def halfIdx (i : S256x256.Idx) : S32x256.Idx := fun a => match a with
  | ⟨0, _⟩ => ⟨(i 0).val % 32, by show _ < 32; omega⟩
  | ⟨1, _⟩ => ⟨(i 1).val, (i 1).isLt⟩

/-- What the shared buffer ends up holding on every device: in each band what the band's device computed. -/
def gAll : S256x256.Idx → F .bf16 := fun i =>
  if (i 0).val % 64 < 32 then topOf (ownerOf i) (xst m ρ (ownerOf i)) (tst m ρ (ownerOf i)) (wst m ρ (ownerOf i)) (halfIdx i)
  else botOf (ownerOf i) (xst m ρ (ownerOf i)) (tst m ρ (ownerOf i)) (wst m ρ (ownerOf i)) (halfIdx i)

/-- Band `d` of device `c`'s buffer, a share `q` of it, at contents `f`. -/
def bandPts (c d : Dev nD) (q : PosShare TreeShare) (f : S256x256.Idx → F .bf16) : sProp 𝕄 :=
  (bandM d).view.loc (c : Thread nD τ) ↦[(bandM d).view.set]{q} (f : Buf (Elt F) ((bandM d).view.loc (c : Thread nD τ)))

omit [FloatOps F] in
instance bandPts_storable (c d : Dev nD) (q) (f) : BI.Storable (upEmb : UEmb _ 𝕄) (bandPts (F := F) c d q f) := by
  unfold bandPts; infer_instance

omit [FloatOps F] in
theorem bandPts_eq (c d : Dev nD) (q) (f : S256x256.Idx → F .bf16) :
    bandPts c d q f = ((c : Thread nD τ).loc cc0_scratch0 ↦[band d]{q} (f : Buf (Elt F) ((c : Thread nD τ).loc cc0_scratch0)) : sProp 𝕄) := by
  unfold bandPts; rw [bandM_set]

omit [FloatOps F] in
/-- Only the band's own elements matter. -/
theorem bandPts_congr (c d : Dev nD) (q) {f g : S256x256.Idx → F .bf16} (h : ∀ i ∈ band d, f i = g i) :
    (bandPts c d q f : sProp 𝕄) = bandPts c d q g := by
  rw [bandPts_eq, bandPts_eq]; exact pointsTo_congr h

/-- The share of its own band a device keeps while it is being copied, and the shares it lends the three copies. -/
def qKeep : PosShare TreeShare := Transfers.shareDrop fullShare 3
def qLend (k : Fin 3) : PosShare TreeShare := Transfers.shareTok fullShare 3 k

omit [FloatOps F] in
/-- A whole band is the kept share and the three lent ones. -/
theorem bandPts_deal (c d : Dev nD) (f : S256x256.Idx → F .bf16) :
    (bandPts c d fullShare f : sProp 𝕄) ⊣⊢ iprop(bandPts c d qKeep f ∗ bandPts c d (qLend 0) f ∗ bandPts c d (qLend 1) f ∗ bandPts c d (qLend 2) f) := by
  have h := Transfers.pointsTo_toks (Val := Elt F) (Ix := Unit) (Name := ℕ) (U := UU) (Lvl := ℕ) (ℓ := (bandM d).view.loc (c : Thread nD τ)) (S := (bandM d).view.set)
    (f := (f : Buf (Elt F) ((bandM d).view.loc (c : Thread nD τ)))) fullShare 3
  rw [bigSep_univ_eq_bigSepL [(0 : Fin 3), 1, 2] (by decide) (by decide), bigSepL_cons_cons, bigSepL_cons_cons, bigSepL_singleton] at h
  exact h

/-! ## The schedule -/

/-- What the barrier unit that device `p` pays to device `b` hands over: band `b` of `p`'s buffer at some contents. -/
def barPay (p b : Dev nD) : sProp 𝕄 := iprop(∃ f, bandPts p b fullShare f)

omit [FloatOps F] in
instance barPay_storable (p b : Dev nD) : BI.Storable (upEmb : UEmb _ 𝕄) (barPay (F := F) p b) := by
  unfold barPay; infer_instance

/-- The duties of a cell's one round: the barrier's three, a send cell's one, a receive cell's one unless the cell is the one
    for copies from the device itself, which there are none of. -/
def dutiesAt (c : Dev nD) (sm : SemLoc sig) : Finset (Fin 3) :=
  if sm = .reg barS then Finset.univ
  else if sm = .dma (sendS 0) ∨ sm = .dma (sendS 1) ∨ sm = .dma (sendS 2) then {0}
  else if ∃ d, d ≠ c ∧ sm = .dma (recvS d) then {0} else ∅

/-- What a cell's duty hands the waiter. -/
def payAt (c : Dev nD) (sm : SemLoc sig) (k : Fin 3) : sProp 𝕄 :=
  if sm = .reg barS then barPay (bwd k c) c
  else if sm = .dma (sendS 0) then bandPts c c (qLend 0) (gAll m ρ)
  else if sm = .dma (sendS 1) then bandPts c c (qLend 1) (gAll m ρ)
  else if sm = .dma (sendS 2) then bandPts c c (qLend 2) (gAll m ρ)
  else if sm = .dma (recvS 0) then bandPts c 0 fullShare (gAll m ρ)
  else if sm = .dma (recvS 1) then bandPts c 1 fullShare (gAll m ρ)
  else if sm = .dma (recvS 2) then bandPts c 2 fullShare (gAll m ρ)
  else if sm = .dma (recvS 3) then bandPts c 3 fullShare (gAll m ρ)
  else iprop(emp)

/-- The exchange's schedule, one round. -/
def Rd : Rounds.Schedule (GSem nD τ sig) (Fin 3) 𝕄 where
  duties g r := if r = 0 ∧ g.1.2 = .tc then dutiesAt g.1.1 g.2 else ∅
  unitless _ := False
  amount g _ _ := if g.2 = .reg barS then 1 else N
  payload g _ k := payAt m ρ g.1.1 g.2 k
  amount_pos g _ _ _ := by
    by_cases h : g.2 = .reg barS
    · rw [if_pos h]; exact Nat.one_pos
    · rw [if_neg h]; exact N_pos

instance Rd_payload_storable (g : GSem nD τ sig) (r : ℕ) (k : Fin 3) :
    BI.Storable (upEmb : UEmb _ 𝕄) ((Rd (F := F) m ρ).payload g r k) := by
  show BI.Storable upEmb (payAt m ρ g.1.1 g.2 k)
  unfold payAt
  (repeat' split) <;> infer_instance

section Sched
variable (c d : Dev nD) (k : Fin 3)

theorem duties_zero (sm : SemLoc sig) : (Rd (F := F) m ρ).duties ((c : Thread nD τ), sm) 0 = dutiesAt c sm := by
  dsimp only [Rd]; exact if_pos ⟨rfl, rfl⟩
theorem duties_bar : (Rd (F := F) m ρ).duties (barCell c) 0 = Finset.univ := by
  rw [duties_zero]
  show dutiesAt c (.reg barS) = _
  revert c; decide
theorem duties_send : (Rd (F := F) m ρ).duties (sendCell c k) 0 = {0} := by
  rw [duties_zero]
  show dutiesAt c (.dma (sendS k)) = _
  revert c k; decide
theorem duties_recv (h : d ≠ c) : (Rd (F := F) m ρ).duties (recvCell c d) 0 = {0} := by
  rw [duties_zero]
  show dutiesAt c (.dma (recvS d)) = _
  revert c d; decide
/-- No copy completes a device's receive cell for itself. -/
theorem duties_self : ∀ r, 0 ≤ r → (Rd (F := F) m ρ).duties (recvCell c c) r = ∅ := fun r _ => by
  have h : dutiesAt c (.dma (recvS c)) = ∅ := by revert c; decide
  dsimp only [Rd]; rw [h]; exact ite_self _
theorem duties_later (g : GSem nD τ sig) : ∀ r, 0 + 1 ≤ r → (Rd (F := F) m ρ).duties g r = ∅ :=
  fun r hr => by dsimp only [Rd]; rw [if_neg fun h => by omega]

theorem amount_bar (e : Fin 3) : (Rd (F := F) m ρ).amount (barCell c) 0 e = 1 := by dsimp only [Rd]; exact if_pos rfl
theorem amount_send (e : Fin 3) : (Rd (F := F) m ρ).amount (sendCell c k) 0 e = N := by
  dsimp only [Rd]; exact if_neg (fun h => by cases h)
theorem amount_recv (e : Fin 3) : (Rd (F := F) m ρ).amount (recvCell c d) 0 e = N := by
  dsimp only [Rd]; exact if_neg (fun h => by cases h)

theorem expect_bar : (Rd (F := F) m ρ).expect (barCell c) 0 = 3 := by
  unfold Schedule.expect Schedule.amountOf
  rw [duties_bar, Finset.sum_congr rfl fun e _ => amount_bar m ρ c e, Finset.sum_const, Finset.card_univ, Fintype.card_fin, smul_eq_mul]
theorem expect_send : (Rd (F := F) m ρ).expect (sendCell c k) 0 = N := by
  unfold Schedule.expect Schedule.amountOf; rw [duties_send, Finset.sum_singleton, amount_send]
theorem expect_recv (h : d ≠ c) : (Rd (F := F) m ρ).expect (recvCell c d) 0 = N := by
  unfold Schedule.expect Schedule.amountOf; rw [duties_recv m ρ c d h, Finset.sum_singleton, amount_recv]

theorem payload_bar : (Rd (F := F) m ρ).payload (barCell c) 0 k = barPay (bwd k c) c := by
  dsimp only [Rd]; unfold payAt; exact if_pos rfl
theorem payload_send : (Rd (F := F) m ρ).payload (sendCell c k) 0 0 = bandPts c c (qLend k) (gAll m ρ) := by
  dsimp only [Rd]; unfold payAt
  fin_cases k <;> simp +decide only [if_true, if_false] <;> rfl
theorem payload_recv : (Rd (F := F) m ρ).payload (recvCell c d) 0 0 = bandPts c d fullShare (gAll m ρ) := by
  dsimp only [Rd]; unfold payAt
  fin_cases d <;> simp +decide only [if_true, if_false] <;> rfl

/-- The whole of the barrier's round: the three others' bands for this device. -/
theorem rest_bar : bigSep ((Rd (F := F) m ρ).duties (barCell c) 0 \ ∅) (fun e => (Rd (F := F) m ρ).payload (barCell c) 0 e)
    = iprop(barPay (fwd 2 c) c ∗ barPay (fwd 1 c) c ∗ barPay (fwd 0 c) c) := by
  rw [Finset.sdiff_empty, duties_bar, bigSep_univ_eq_bigSepL [(0 : Fin 3), 1, 2] (by decide) (by decide), bigSepL_cons_cons, bigSepL_cons_cons,
    bigSepL_singleton, payload_bar, payload_bar, payload_bar, bwd0, bwd1, bwd2]
  rfl
theorem rest_send : bigSep ((Rd (F := F) m ρ).duties (sendCell c k) 0 \ ∅) (fun e => (Rd (F := F) m ρ).payload (sendCell c k) 0 e)
    = bandPts c c (qLend k) (gAll m ρ) := by
  rw [Finset.sdiff_empty, duties_send, bigSep_singleton, payload_send]
theorem rest_recv (h : d ≠ c) : bigSep ((Rd (F := F) m ρ).duties (recvCell c d) 0 \ ∅) (fun e => (Rd (F := F) m ρ).payload (recvCell c d) 0 e)
    = bandPts c d fullShare (gAll m ρ) := by
  rw [Finset.sdiff_empty, duties_recv m ρ c d h, bigSep_singleton, payload_recv]

end Sched

/-! ## What each device owes at launch, and the levels -/

/-- What device `c` owes the receive cells it copies onto, the last copy's first. -/
def oSend2 (c : Dev nD) : CellTallies nD τ sig Unit := tallyAt (recvCell (fwd 2 c) c) () N
def oSend1 (c : Dev nD) : CellTallies nD τ sig Unit := oSend2 c + tallyAt (recvCell (fwd 1 c) c) () N
def oSend0 (c : Dev nD) : CellTallies nD τ sig Unit := oSend1 c + tallyAt (recvCell (fwd 0 c) c) () N
/-- With the barrier units, each signal taking the last summand. -/
def oBar2 (c : Dev nD) : CellTallies nD τ sig Unit := oSend0 c + tallyAt (barCell (fwd 2 c)) () 1
def oBar1 (c : Dev nD) : CellTallies nD τ sig Unit := oBar2 c + tallyAt (barCell (fwd 1 c)) () 1
def O₀ (c : Dev nD) : CellTallies nD τ sig Unit := oBar1 c + tallyAt (barCell (fwd 0 c)) () 1

def L (g : GSem nD τ sig) : Finset Unit := if g.1.2 = .tc then {()} else ∅
/-- Barrier cells at 1, receive cells at 2, the rest at 0. -/
def lv (g : GSem nD τ sig) (_ : Unit) : ℕ :=
  if g.2 = .reg barS then 1
  else if g.2 = .dma (recvS 0) ∨ g.2 = .dma (recvS 1) ∨ g.2 = .dma (recvS 2) ∨ g.2 = .dma (recvS 3) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c d : Dev nD) (u : Unit) : lv (recvCell c d) u = 2 := by
  unfold lv; rw [if_neg (fun h => by cases h)]
  have h : SemLoc.dma (recvS d) = (.dma (recvS 0) : SemLoc sig) ∨ SemLoc.dma (recvS d) = (.dma (recvS 1) : SemLoc sig)
      ∨ SemLoc.dma (recvS d) = (.dma (recvS 2) : SemLoc sig) ∨ SemLoc.dma (recvS d) = (.dma (recvS 3) : SemLoc sig) := by revert d; decide
  exact if_pos h

theorem pos_of_add {A : CellTallies nD τ sig Unit} {g' g : GSem nD τ sig} {n : ℕ} {u : Unit} (h : 0 < (A + tallyAt g' () n) g u) :
    0 < A g u ∨ g = g' := by
  rw [Pi.add_apply, Finsupp.add_apply, tallyAt_apply] at h
  by_cases e : g = g' ∧ u = ()
  · exact .inr e.1
  · rw [if_neg e, Nat.add_zero] at h; exact .inl h

theorem oSend0_pos {c : Dev nD} {g : GSem nD τ sig} {u : Unit} (h : 0 < oSend0 c g u) : ∃ k, g = recvCell (fwd k c) c := by
  unfold oSend0 oSend1 at h
  rcases pos_of_add h with h | h
  · rcases pos_of_add h with h | h
    · unfold oSend2 at h; rw [tallyAt_apply] at h
      by_cases e : g = recvCell (fwd 2 c) c ∧ u = ()
      · exact ⟨2, e.1⟩
      · rw [if_neg e] at h; exact absurd h (Nat.lt_irrefl 0)
    · exact ⟨1, h⟩
  · exact ⟨0, h⟩

theorem O₀_pos {c : Dev nD} {g : GSem nD τ sig} {u : Unit} (h : 0 < O₀ c g u) :
    (∃ k, g = recvCell (fwd k c) c) ∨ ∃ k, g = barCell (fwd k c) := by
  unfold O₀ oBar1 oBar2 at h
  rcases pos_of_add h with h | h
  · rcases pos_of_add h with h | h
    · rcases pos_of_add h with h | h
      · exact .inl (oSend0_pos h)
      · exact .inr ⟨2, h⟩
    · exact .inr ⟨1, h⟩
  · exact .inr ⟨0, h⟩

omit [FloatOps F] in
/-- A staging cell may be waited for whatever the device still owes. -/
theorem mayWait_stage (c : Dev nD) (q : DmaSem sig) (hq : ∀ d, SemLoc.dma q ≠ (.dma (recvS d) : SemLoc sig)) (O : CellTallies nD τ sig Unit)
    (hO : O = O₀ c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by
        rw [Finset.mem_singleton.mp hp]; dsimp only [lv]; rw [if_neg (fun h => by cases h), if_neg]
        rintro (h | h | h | h) <;> exact hq _ h)
      (fun g u hg => by
        rcases O₀_pos hg with ⟨k, rfl⟩ | ⟨k, rfl⟩
        · rw [lv_recv]; decide
        · rw [lv_bar]; decide)
  · rw [MayWait_zero]; iintro -; iempintro

omit [FloatOps F] in
/-- At the barrier a device owes its three copies only, whose cells lie above the barrier's. -/
theorem mayWait_bar (c : Dev nD) : (levAts L lv : sProp 𝕄) ⊢ MayWait (c : Thread nD τ) (.reg barS) () (oSend0 c) :=
  MayOwe.of_cut (L := L) (lev := lv) 1 (fun p hp => by rw [Finset.mem_singleton.mp hp, L_tc]; exact Finset.mem_singleton_self _)
    (fun g u hg => by obtain ⟨k, rfl⟩ := oSend0_pos hg; exact Finset.mem_singleton_self _)
    (fun p hp => by rw [Finset.mem_singleton.mp hp]; exact (lv_bar c ()).le)
    (fun g u hg => by obtain ⟨k, rfl⟩ := oSend0_pos hg; rw [lv_recv]; decide)

end Cert.KernelIdeal.Moe
-- ==== Proof.IdealSteps.lean ====
module

public import proofs.«01_k».proof.Proof.IdealCells

@[expose] public section

noncomputable section

/-! # One rule for each kind of step of the exchange -/

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## A device's eight cells by number -/

/-- A device's cells: the barrier, the three send cells, the four receive cells. -/
abbrev csem : Fin 8 → SemLoc sig := fun
  | 0 => .reg barS
  | 1 => .dma (sendS 0) | 2 => .dma (sendS 1) | 3 => .dma (sendS 2)
  | 4 => .dma (recvS 0) | 5 => .dma (recvS 1) | 6 => .dma (recvS 2) | 7 => .dma (recvS 3)
abbrev kcell (ck : Dev nD × Fin 8) : GSem nD τ sig := ((ck.1 : Thread nD τ), csem ck.2)

set_option backward.proofsInPublic true in
def sIx (k : Fin 3) : Fin 8 := ⟨1 + k.val, by have := k.isLt; omega⟩
set_option backward.proofsInPublic true in
def rIx (d : Dev nD) : Fin 8 := ⟨4 + d.val, by have : d.val < 4 := d.isLt; omega⟩
theorem kcell_send (c : Dev nD) (k : Fin 3) : kcell (c, sIx k) = sendCell c k := by fin_cases k <;> rfl
theorem kcell_recv (c d : Dev nD) : kcell (c, rIx d) = recvCell c d := by fin_cases d <;> rfl

/-- Every cell's invariant, under the names `K`, and that every cell has reached its first round. -/
def records (K : Dev nD × Fin 8 → ℕ) : sProp 𝕄 :=
  iprop((bigSep Finset.univ fun ck : Dev nD × Fin 8 => cellInv ER (Rd m ρ) (K ck) (kcell ck))
    ∗ bigSep Finset.univ fun ck : Dev nD × Fin 8 => reached ER (kcell ck) 0)

instance records_persistent (K : Dev nD × Fin 8 → ℕ) : BI.Persistent (records m ρ K) := by unfold records; infer_instance

variable (K : Dev nD × Fin 8 → ℕ)

theorem inv_any (ck : Dev nD × Fin 8) : records m ρ K ⊢ cellInv ER (Rd m ρ) (K ck) (kcell ck) := by
  have h : (bigSep Finset.univ fun ck : Dev nD × Fin 8 => (cellInv ER (Rd m ρ) (K ck) (kcell ck) : sProp 𝕄)) ⊢ cellInv ER (Rd m ρ) (K ck) (kcell ck) :=
    bigSep_elim (Finset.mem_univ ck)
  unfold records
  iintro ⟨H, -⟩
  iapply h; iexact H
theorem reached_any (ck : Dev nD × Fin 8) : records m ρ K ⊢ (reached ER (kcell ck) 0 : sProp 𝕄) := by
  have h : (bigSep Finset.univ fun ck : Dev nD × Fin 8 => (reached ER (kcell ck) 0 : sProp 𝕄)) ⊢ reached ER (kcell ck) 0 :=
    bigSep_elim (Finset.mem_univ ck)
  unfold records
  iintro ⟨-, H⟩
  iapply h; iexact H
theorem inv_send (c : Dev nD) (k : Fin 3) : records m ρ K ⊢ cellInv ER (Rd m ρ) (K (c, sIx k)) (sendCell c k) := by
  rw [← kcell_send]; exact inv_any m ρ K _
theorem inv_recv (c d : Dev nD) : records m ρ K ⊢ cellInv ER (Rd m ρ) (K (c, rIx d)) (recvCell c d) := by
  rw [← kcell_recv]; exact inv_any m ρ K _
theorem reached_send (c : Dev nD) (k : Fin 3) : records m ρ K ⊢ (reached ER (sendCell c k) 0 : sProp 𝕄) := by
  rw [← kcell_send]; exact reached_any m ρ K _
theorem reached_recv (c d : Dev nD) : records m ρ K ⊢ (reached ER (recvCell c d) 0 : sProp 𝕄) := by
  rw [← kcell_recv]; exact reached_any m ρ K _

/-! ## Contents under the copies -/

omit [FloatOps F] in
/-- A band copied from contents `g` holds `g` there. -/
theorem band_copied (c d : Dev nD) (f g : S256x256.Idx → F .bf16) :
    (bandPts c d fullShare ((bandM d).view.write (Elt F) f ((bandM d).view.read (Elt F) g) Finset.univ) : sProp 𝕄) = bandPts c d fullShare g := by
  refine bandPts_congr c d fullShare fun i hi => ?_
  rw [View.write_read_eq_piecewise]
  refine Finset.piecewise_eq_of_mem _ _ _ ?_
  show i ∈ (bandM d).view.setOn Finset.univ
  have : (bandM d).view.setOn Finset.univ = (bandM d).view.set := rfl
  rw [this, bandM_set]; exact hi

/-- Every band's copy pays the same. -/
theorem credit_band (d : Dev nD) : (bandM d).view.dmaCredit = N := rfl

/-! ## The steps -/

/-- What a device owes, whatever it has waited for. -/
def owesAny (c : Dev nD) (O : CellTallies nD τ sig Unit) : sProp 𝕄 := iprop(∃ W, owes (c : Thread nD τ) O W)

/-- A signal to the device `k + 1` places on, handing it its band of this device's buffer. -/
theorem signal_step (c n : Dev nD) (k : Fin 3) (hn : n = fwd k c) (O : CellTallies nD τ sig Unit) (f : S256x256.Idx → F .bf16)
    {α : Type} {Q : α → sProp 𝕄} {kk : PUnit → Prog (TpuEff nD τ sig (Elt F) Λ₀ .tc) α} :
    iprop(records m ρ K ∗ owesAny c (O + tallyAt (barCell (fwd k c)) () 1) ∗ dutyTok ER (barCell (fwd k c)) 0 k ∗ bandPts c (fwd k c) fullShare f)
      ⊢ iprop((owesAny c O -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n, .tc) barS (1#32 : BitVec 32).toInt) kk) Q) := by
  subst hn
  unfold owesAny
  iintro ⟨#HR, ⟨%W, HO⟩, Ht, Hb⟩ Hk
  iapply (Rounds.wp_signal 𝒱₀ ER (Rd m ρ) (c : Thread nD τ) none (dst := (fwd k c : Thread nD τ)) (κ := K (fwd k c, 0))
      (d := k) (by rw [duties_bar]; exact Finset.mem_univ _) ((amount_bar m ρ (fwd k c) k).trans (by decide)) () O rfl)
    $$ [HO Ht Hb]
  · isplitr; · iapply (inv_any m ρ K (fwd k c, 0)); iexact HR
    isplitl [HO]; · iexact HO
    isplitl [Ht]; · iexact Ht
    isplitl [Hb]
    · rw [payload_bar, bwd_fwd]; unfold barPay; iexists f; iexact Hb
    · iapply (reached_any m ρ K (fwd k c, 0)); iexact HR
  iintro HO
  iapply Hk; iexists W; iexact HO

/-- The wait for the three others, whose bands for this device come with it; the barrier cell closes. -/
theorem barrier_step (c : Dev nD) {α : Type} {Q : α → sProp 𝕄} {kk : PUnit → Prog (TpuEff nD τ sig (Elt F) Λ₀ .tc) α} :
    iprop(records m ρ K ∗ levAts L lv ∗ owesAny c (oSend0 c) ∗ cred (tallyAt (barCell c) () 3) ∗ atPos ER (barCell c) 0 ∅ 0)
      ⊢ iprop(((owesAny c (oSend0 c) ∗ semVal (barCell c) 0 ∗ barPay (fwd 2 c) c ∗ barPay (fwd 1 c) c ∗ barPay (fwd 0 c) c)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS (3#32 : BitVec 32).toInt) kk) Q) := by
  unfold owesAny
  iintro ⟨#HR, #Hlev, ⟨%W, HO⟩, Hc, Hat⟩ Hk
  ihave HI := (inv_any m ρ K (c, 0)) $$ HR
  icases HI with #HI
  iapply (Rounds.wp_wait_rest_token 𝒱₀ ER (Rd m ρ) (c : Thread nD τ) none (κ := K (c, 0))
      (wpE_semWait_eq 𝒱₀ (c : Thread nD τ) none Set.univ) (Set.mem_univ _) () (O := oSend0 c) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (Rd m ρ) (Set.mem_univ (K (c, 0))) (fun h => h) (R := 0 + 1) (duties_later m ρ (barCell c))) $$ [Hat] with Hz
  · isplitr; · iexact HI
    iexact Hat
  iapply Hk
  isplitl [HO]; · iexists _; iexact HO
  isplitl [Hz]; · iexact Hz
  iexact Hp

/-- The library's rule for an addressed copy, at this exchange's cells and bands. -/
theorem copy_band (c : Dev nD) (k : Fin 3) (O : CellTallies nD τ sig Unit) (f : S256x256.Idx → F .bf16) (W : Waits sig Unit)
    {hsc : (bandM c : Memref sig (Dev.tc (fwd k c) : Thread nD τ).2.kind .vmem S64x256 .bf16).view.ref.isScScratch = false}
    {hsrc : (bandM c).view.WordExact} {hdst : (bandM c).view.WordExact}
    {hsem : DmaTarget.Typed .vmem (.dma (recvS c)) (.remote (Dev.tc (fwd k c) : Thread nD τ) (bandM c) (.dma (sendS k)) hsc)}
    {α : Type} {Q : α → sProp 𝕄} {kk : PUnit → Prog (TpuEff nD τ sig (Elt F) Λ₀ .tc) α} :
    iprop(cellInv ER (Rd m ρ) (K (c, sIx k)) (sendCell c k) ∗ cellInv ER (Rd m ρ) (K (fwd k c, rIx c)) (recvCell (fwd k c) c)
        ∗ bandPts c c (qLend k) (gAll m ρ) ∗ bandPts (fwd k c) c fullShare f
        ∗ owes (c : Thread nD τ) (O + tallyAt (recvCell (fwd k c) c) () N) W
        ∗ dutyTok ER (sendCell c k) 0 0 ∗ reached ER (sendCell c k) 0
        ∗ dutyTok ER (recvCell (fwd k c) c) 0 0 ∗ reached ER (recvCell (fwd k c) c) 0)
      ⊢ iprop(((cred (tallyAt (sendCell c k) () N) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (bandM c) (.remote (Dev.tc (fwd k c) : Thread nD τ) (bandM c) (.dma (sendS k)) hsc) (.dma (recvS c)) hsrc hdst hsem) kk) Q) := by
  have hN : (bandM c).view.amount (.dma (recvS c)) = N := credit_band c
  have hd₁ : (0 : Fin 3) ∈ (Rd (F := F) m ρ).duties (sendCell c k) 0 := by rw [duties_send]; exact Finset.mem_singleton_self _
  have hd₂ : (0 : Fin 3) ∈ (Rd (F := F) m ρ).duties (recvCell (fwd k c) c) 0 := by
    rw [duties_recv m ρ _ _ (fwd_ne k c).symm]; exact Finset.mem_singleton_self _
  have hp₁ : (bandPts c c (qLend k) (gAll m ρ) : sProp 𝕄) ⊢ (Rd m ρ).payload (sendCell c k) 0 0 := by
    rw [payload_send]
  have hp₂ : (bandPts (fwd k c) c fullShare ((bandM c).view.write (Elt F) f ((bandM c).view.read (Elt F) (gAll m ρ)) Finset.univ) : sProp 𝕄)
      ⊢ (Rd m ρ).payload (recvCell (fwd k c) c) 0 0 := by rw [payload_recv, band_copied]
  unfold bandPts at hp₁ hp₂ ⊢
  exact Rounds.wp_send_pointsTo 𝒱₀ ER (Rd m ρ) (c : Thread nD τ) none (κ₁ := K (c, sIx k)) (κ₂ := K (fwd k c, rIx c))
    (c' := (fwd k c : Thread nD τ)) (src := bandM c) (dst := bandM c) (sS := .dma (sendS k)) (sem := .dma (recvS c))
    (r₁ := 0) (r₂ := 0) (d₁ := 0) (d₂ := 0) (q := qLend k) (fs := gAll m ρ) (fd := f)
    hd₁ hd₂ () () N hN (amount_send m ρ c k 0) (amount_recv m ρ (fwd k c) c 0) O rfl (W := W) hp₁ hp₂

/-- The copy of the device's band to the device `k + 1` places on. -/
theorem send_step (c n : Dev nD) (k : Fin 3) (hn : n = fwd k c) (sS rS : DmaSem sig) (hs : sS = sendS k) (hr : rS = recvS c)
    (O : CellTallies nD τ sig Unit) (f : S256x256.Idx → F .bf16)
    {hsc : (bandM c : Memref sig (Dev.tc n : Thread nD τ).2.kind .vmem S64x256 .bf16).view.ref.isScScratch = false}
    {hsrc : (bandM c).view.WordExact} {hdst : (bandM c).view.WordExact}
    {hsem : DmaTarget.Typed .vmem (.dma rS) (.remote (Dev.tc n : Thread nD τ) (bandM c) (.dma sS) hsc)}
    {α : Type} {Q : α → sProp 𝕄} {kk : PUnit → Prog (TpuEff nD τ sig (Elt F) Λ₀ .tc) α} :
    iprop(records m ρ K ∗ owesAny c (O + tallyAt (recvCell (fwd k c) c) () N) ∗ bandPts c c (qLend k) (gAll m ρ) ∗ bandPts (fwd k c) c fullShare f
        ∗ dutyTok ER (sendCell c k) 0 0 ∗ dutyTok ER (recvCell (fwd k c) c) 0 0)
      ⊢ iprop(((owesAny c O ∗ cred (tallyAt (sendCell c k) () N)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (bandM c) (.remote (Dev.tc n : Thread nD τ) (bandM c) (.dma sS) hsc) (.dma rS) hsrc hdst hsem) kk) Q) := by
  subst hn hs hr
  unfold owesAny
  iintro ⟨#HR, ⟨%W, HO⟩, Hsrc, Hdst, Hts, Htr⟩ Hk
  iapply (copy_band m ρ K c k O f W) $$ [HO Hsrc Hdst Hts Htr]
  · isplitr; · iapply (inv_send m ρ K c k); iexact HR
    isplitr; · iapply (inv_recv m ρ K (fwd k c) c); iexact HR
    isplitl [Hsrc]; · iexact Hsrc
    isplitl [Hdst]; · iexact Hdst
    isplitl [HO]; · iexact HO
    isplitl [Hts]; · iexact Hts
    isplitr; · iapply (reached_send m ρ K c k); iexact HR
    isplitl [Htr]; · iexact Htr
    iapply (reached_recv m ρ K (fwd k c) c); iexact HR
  iintro ⟨Hc, HO⟩
  iapply Hk
  isplitl [HO]; · iexists _; iexact HO
  iexact Hc

/-- The wait for one of the device's own copies: the share of its band it lent comes back, and the send cell closes. -/
theorem sent_step (c : Dev nD) (k : Fin 3) (sS : DmaSem sig) (hs : sS = sendS k)
    {h1 h2 : (bandM c).view.WordExact} {α : Type} {Q : α → sProp 𝕄} {kk : PUnit → Prog (TpuEff nD τ sig (Elt F) Λ₀ .tc) α} :
    iprop(records m ρ K ∗ owesAny c 0 ∗ cred (tallyAt (sendCell c k) () N) ∗ atPos ER (sendCell c k) 0 ∅ 0)
      ⊢ iprop(((owesAny c 0 ∗ semVal (sendCell c k) 0 ∗ bandPts c c (qLend k) (gAll m ρ))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sS (bandM c) (bandM c) h1 h2) kk) Q) := by
  subst hs
  unfold owesAny
  iintro ⟨#HR, ⟨%W, HO⟩, Hc, Hat⟩ Hk
  ihave HI := (inv_send m ρ K c k) $$ HR
  icases HI with #HI
  iapply (Rounds.wp_wait_rest_token 𝒱₀ ER (Rd m ρ) (c : Thread nD τ) none (κ := K (c, sIx k))
      (wpE_waitDma2_eq 𝒱₀ (c : Thread nD τ) none Set.univ) (Set.mem_univ _) () (O := 0) (W := W) (R := 0) (m := 0) (T := ∅)
      (by rw [Nat.zero_add, expect_send]; rfl)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m ρ c k)) $$ Hpay
  imod (Rounds.cell_close ER (Rd m ρ) (Set.mem_univ (K (c, sIx k))) (fun h => h) (R := 0 + 1) (duties_later m ρ (sendCell c k))) $$ [Hat] with Hz
  · isplitr; · iexact HI
    iexact Hat
  iapply Hk
  isplitl [HO]; · iexists _; iexact HO
  isplitl [Hz]; · iexact Hz
  iexact Hp

/-- The share of band `d` a device holds while its copies are under way: what it keeps of its own, all of another's. -/
def qOf (c d : Dev nD) : PosShare TreeShare := if d = c then qKeep else fullShare

/-- Before band `d` is read: of its own the share kept, for another's the credit to wait for it. -/
def awaited (c d : Dev nD) : sProp 𝕄 :=
  if d = c then bandPts c c qKeep (gAll m ρ) else cred (tallyAt (recvCell c d) () N)

/-- The wait for band `d`, taken unless the band is the device's own: the band holds what its device computed, and the
    receive cell closes. -/
theorem recv_step (c d : Dev nD) (b : BitVec 1) (hb : b = 1#1 ↔ d ≠ c) (rS : DmaSem sig) (hr : rS = recvS d)
    (src : b = 1#1 → Memref sig .tc .vmem S64x256 .bf16) (dst : Memref sig .tc .vmem S64x256 .bf16) (hdst : dst.view.dmaCredit = N)
    (h1 : ∀ h, (src h).view.WordExact) (h2 : dst.view.WordExact) {α : Type} {Q : α → sProp 𝕄} {kk : PUnit → Prog (TpuEff nD τ sig (Elt F) Λ₀ .tc) α} :
    iprop(records m ρ K ∗ owesAny c 0 ∗ awaited m ρ c d ∗ atPos ER (recvCell c d) 0 ∅ 0)
      ⊢ iprop(((owesAny c 0 ∗ semVal (recvCell c d) 0 ∗ bandPts c d (qOf c d) (gAll m ρ))
            -∗ wp frame (wpE (defs₀ (F := F)) 𝒱₀ (c : Thread nD τ) none) Set.univ (kk ⟨⟩) Q)
          -∗ wp frame (wpE (defs₀ (F := F)) 𝒱₀ (c : Thread nD τ) none) Set.univ
              ((if h : b = 1#1 then .op (.waitDma2 rS (src h) dst (h1 h) h2) .ret else .ret ⟨⟩) >>= kk) Q) := by
  subst hr
  unfold awaited qOf owesAny
  by_cases hd : d = c
  · rw [if_pos hd, if_pos hd, dif_neg (fun h => hb.mp h hd)]
    subst hd
    iintro ⟨#HR, HO, Hb, Hat⟩ Hk
    ihave HI := (inv_recv m ρ K d d) $$ HR
    icases HI with #HI
    imod (Rounds.cell_close ER (Rd m ρ) (Set.mem_univ (K (d, rIx d))) (fun h => h) (R := 0) (duties_self m ρ d)) $$ [Hat] with Hz
    · isplitr; · iexact HI
      iexact Hat
    rw [wp_bind, wp_ret]; imodintro
    iapply Hk
    isplitl [HO]; · iexact HO
    isplitl [Hz]; · iexact Hz
    iexact Hb
  · rw [if_neg hd, if_neg hd, dif_pos (hb.mpr hd)]
    iintro ⟨#HR, ⟨%W, HO⟩, Hc, Hat⟩ Hk
    ihave HI := (inv_recv m ρ K c d) $$ HR
    icases HI with #HI
    rw [wp_bind]
    iapply (Rounds.wp_wait_rest_token 𝒱₀ ER (Rd m ρ) (c : Thread nD τ) none (κ := K (c, rIx d))
      (wpE_waitDma2_eq 𝒱₀ (c : Thread nD τ) none Set.univ) (Set.mem_univ _) () (O := 0) (W := W) (R := 0) (m := 0) (T := ∅)
      (by rw [Nat.zero_add, expect_recv m ρ c d hd, hdst])) $$ [Hc HO Hat]
    · isplitr; · iexact HI
      isplitl [Hc]; · rw [hdst]; iexact Hc
      isplitl [HO]; · iexact HO
      isplitr; · rw [MayWait_zero]; iempintro
      iexact Hat
    iintro ⟨HO, Hat, -, Hpay⟩
    ihave Hp := (Entails.of_eq (rest_recv m ρ c d hd)) $$ Hpay
    imod (Rounds.cell_close ER (Rd m ρ) (Set.mem_univ (K (c, rIx d))) (fun h => h) (R := 0 + 1) (duties_later m ρ (recvCell c d))) $$ [Hat] with Hz
    · isplitr; · iexact HI
      iexact Hat
    rw [wp_ret]; imodintro
    iapply Hk
    isplitl [HO]; · iexists _; iexact HO
    isplitl [Hz]; · iexact Hz
    iexact Hp

end Cert.KernelIdeal.Moe
-- ==== Proof.IdealBody.lean ====
module

public import proofs.«01_k».proof.Proof.IdealSteps
public import proofs.«01_k».proof.Proof.Gen.KernelIdeal.Points

@[expose] public section

noncomputable section

/-! # The kernel's body on one device -/

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The device's own band after its two stores -/

abbrev rTop (c : Dev nD) : Rect S256x256 := Rect.unit (s := S256x256) (k0_off1 c 0#32) S32x256.size (k0_off1_inb c 0)
abbrev rBot (c : Dev nD) : Rect S256x256 := Rect.unit (s := S256x256) (k0_off1 c 32#32) S32x256.size (k0_off1_inb c 1)

theorem off_top (c : Dev nD) : k0_off1 c 0#32 = ![64 * c.val, 0] := k0_off1_eq c 0
theorem off_bot (c : Dev nD) : k0_off1 c 32#32 = ![64 * c.val + 32, 0] := k0_off1_eq c 1

theorem mem_top {c : Dev nD} {i : S256x256.Idx} : i ∈ (rTop c).set ↔ 64 * c.val ≤ (i 0).val ∧ (i 0).val < 64 * c.val + 32 := by
  rw [Rect.mem_set_unit, off_top]
  have h1 : (i 1).val < 256 := (i 1).isLt
  constructor
  · intro h; exact h 0
  · intro h a
    fin_cases a
    · exact h
    · show 0 ≤ (i 1).val ∧ (i 1).val < 0 + 256
      omega
theorem mem_bot {c : Dev nD} {i : S256x256.Idx} : i ∈ (rBot c).set ↔ 64 * c.val + 32 ≤ (i 0).val ∧ (i 0).val < 64 * c.val + 64 := by
  rw [Rect.mem_set_unit, off_bot]
  have h1 : (i 1).val < 256 := (i 1).isLt
  constructor
  · intro h
    have h2 : 64 * c.val + 32 ≤ (i 0).val ∧ (i 0).val < 64 * c.val + 32 + 32 := h 0
    omega
  · intro h a
    fin_cases a
    · show 64 * c.val + 32 ≤ (i 0).val ∧ (i 0).val < 64 * c.val + 32 + 32
      omega
    · show 0 ≤ (i 1).val ∧ (i 1).val < 0 + 256
      omega

theorem top_sub (c : Dev nD) : (rTop c).set ⊆ (bandM c).view.set := fun i hi => by
  rw [bandM_set, mem_band]; have := mem_top.mp hi; omega
theorem bot_sub (c : Dev nD) : (rBot c).set ⊆ (bandM c).view.set := fun i hi => by
  rw [bandM_set, mem_band]; have := mem_bot.mp hi; omega

theorem access_set (r : Rect S256x256) : (gM.access r).set = r.set := View.set_slice_whole cc0_scratch0 r
theorem access_setOn (r : Rect S256x256) : (gM.access r).setOn Finset.univ = r.set := access_set r
theorem view_setOn (r : Rect S256x256) : gM.view.setOn r.set = r.set := by
  rw [show gM.view.setOn r.set = r.set.map gM.view.emb from rfl, ← View.set_slice]; exact access_set r

omit [FloatOps F] in
/-- What a store through a rectangle leaves at the rectangle's elements, -/
theorem write_at (r : Rect S256x256) (f : S256x256.Idx → F .bf16) (w : r.shape.Idx → F .bf16) (j : r.shape.Idx) :
    (gM.access r).write (Elt F) f w Finset.univ (r.emb j) = w j :=
  View.write_emb_of_mem (v := gM.access r) (Val := Elt F) f w (M := Finset.univ) (x := j) (Finset.mem_univ j)
omit [FloatOps F] in
/-- and off them. -/
theorem write_off (r : Rect S256x256) (f : S256x256.Idx → F .bf16) (w : r.shape.Idx → F .bf16) {i : S256x256.Idx} (h : i ∉ r.set) :
    (gM.access r).write (Elt F) f w Finset.univ i = f i :=
  View.write_of_not_mem (v := gM.access r) (Val := Elt F) f w Finset.univ (by rw [access_setOn]; exact h)

/-- After the two stores the device's own band holds what the shared contents say. -/
theorem band_stored (c : Dev nD) (f : S256x256.Idx → F .bf16) (i : S256x256.Idx) (hi : i ∈ band c) :
    (gM.access (rBot c)).write (Elt F)
        ((gM.access (rTop c)).write (Elt F) f (topOf c (xst m ρ c) (tst m ρ c) (wst m ρ c)) Finset.univ)
        (botOf c (xst m ρ c) (tst m ρ c) (wst m ρ c)) Finset.univ i
      = gAll m ρ i := by
  have ho : ownerOf i = c := Fin.ext (mem_band.mp hi)
  have hb := mem_band.mp hi
  unfold gAll
  rw [ho]
  by_cases h : (i 0).val % 64 < 32
  · have hn : i ∉ (rBot c).set := fun h' => by have := mem_bot.mp h'; omega
    have ht : i ∈ (rTop c).set := mem_top.mpr (by omega)
    rw [if_pos h, write_off _ _ _ hn]
    rw [← Rect.map_emb_univ] at ht
    obtain ⟨j, -, rfl⟩ := Finset.mem_map.mp ht
    refine (write_at _ _ _ j).trans (congrArg _ ?_)
    have e0 : (((rTop c).emb j) 0).val = 64 * c.val + 1 * (j 0).val := by
      have := Rect.emb_apply (rTop c) j 0
      rw [this]; show k0_off1 c 0#32 0 + _ = _; rw [off_top]; rfl
    have e1 : (((rTop c).emb j) 1).val = 0 + 1 * (j 1).val := by
      have := Rect.emb_apply (rTop c) j 1
      rw [this]; show k0_off1 c 0#32 1 + _ = _; rw [off_top]; rfl
    have hj : (j 0).val < 32 := (j 0).isLt
    funext a
    fin_cases a
    · refine Fin.ext ?_; show (j 0).val = (((rTop c).emb j) 0).val % 32; rw [e0]; omega
    · refine Fin.ext ?_; show (j 1).val = (((rTop c).emb j) 1).val; rw [e1]; omega
  · have ht : i ∈ (rBot c).set := mem_bot.mpr (by omega)
    rw [if_neg h]
    rw [← Rect.map_emb_univ] at ht
    obtain ⟨j, -, rfl⟩ := Finset.mem_map.mp ht
    refine (write_at _ _ _ j).trans (congrArg _ ?_)
    have e0 : (((rBot c).emb j) 0).val = 64 * c.val + 32 + 1 * (j 0).val := by
      have := Rect.emb_apply (rBot c) j 0
      rw [this]; show k0_off1 c 32#32 0 + _ = _; rw [off_bot]; rfl
    have e1 : (((rBot c).emb j) 1).val = 0 + 1 * (j 1).val := by
      have := Rect.emb_apply (rBot c) j 1
      rw [this]; show k0_off1 c 32#32 1 + _ = _; rw [off_bot]; rfl
    have hj : (j 0).val < 32 := (j 0).isLt
    funext a
    fin_cases a
    · refine Fin.ext ?_; show (j 0).val = (((rBot c).emb j) 0).val % 32; rw [e0]; omega
    · refine Fin.ext ?_; show (j 1).val = (((rBot c).emb j) 1).val; rw [e1]; omega

/-! ## The result -/

abbrev rB0 : Rect S256x256 := Rect.unit (s := S256x256) ![0, 0] S64x256.size inb_S256x256_S64x256_0_0
abbrev rB1 : Rect S256x256 := Rect.unit (s := S256x256) ![64, 0] S64x256.size inb_S256x256_S64x256_64_0
abbrev rB2 : Rect S256x256 := Rect.unit (s := S256x256) ![128, 0] S64x256.size inb_S256x256_S64x256_128_0
abbrev rB3 : Rect S256x256 := Rect.unit (s := S256x256) ![192, 0] S64x256.size inb_S256x256_S64x256_192_0

/-- A band of the shared contents, as a load reads it. -/
abbrev readB (r : Rect S256x256) (g : S256x256.Idx → F .bf16) : r.shape.Idx → F .bf16 := gM.view.readAt (Elt F) r.toLoadRect g

/-- The accumulator after one, two, three and all four bands. -/
def acc1 (t : Vec F S256x1 .i32) (g : S256x256.Idx → F .bf16) : FVec F S256x256 .f32 :=
  k0_pay12 (k0_pay4 t) (k0_pay5 t) (k0_pay11 (F := F)) (readB rB0 g)
def acc2 (t : Vec F S256x1 .i32) (g : S256x256.Idx → F .bf16) : FVec F S256x256 .f32 :=
  k0_pay13 (k0_pay10 (k0_pay4 t) (k0_pay5 t)) (acc1 t g) (readB rB1 g)
def acc3 (t : Vec F S256x1 .i32) (g : S256x256.Idx → F .bf16) : FVec F S256x256 .f32 :=
  k0_pay14 (k0_pay10 (k0_pay4 t) (k0_pay5 t)) (acc2 t g) (readB rB2 g)
def outOf (t : Vec F S256x1 .i32) (g : S256x256.Idx → F .bf16) : FVec F S256x256 .f32 :=
  k0_pay1 (k0_pay15 (acc3 t g)) (k0_pay16 (k0_pay10 (k0_pay4 t) (k0_pay5 t))) (readB rB3 g) (constant S256x256 .f32 0x00000000#32)

/-- Device `c`'s result. -/
def outAt (c : Dev nD) : (cc0_stg3_0 : Ref sig .tc).ty.Contents (Elt F) := outOf (tst m ρ c) (gAll m ρ)

theorem band_of_lit {d : Dev nD} {r : Rect S256x256} (h : ∀ i ∈ r.set, (i 0).val / 64 = d.val) : gM.view.setOn r.set ⊆ (bandM d).view.set := by
  rw [view_setOn, bandM_set]; exact fun i hi => mem_band.mpr (h i hi)
theorem sub0 : gM.view.setOn rB0.set ⊆ (bandM 0).view.set := band_of_lit fun i hi => by
  have h : 0 ≤ (i 0).val ∧ (i 0).val < 0 + 64 := Rect.mem_set_unit.mp hi 0
  show (i 0).val / 64 = 0; omega
theorem sub1 : gM.view.setOn rB1.set ⊆ (bandM 1).view.set := band_of_lit fun i hi => by
  have h : 64 ≤ (i 0).val ∧ (i 0).val < 64 + 64 := Rect.mem_set_unit.mp hi 0
  show (i 0).val / 64 = 1; omega
theorem sub2 : gM.view.setOn rB2.set ⊆ (bandM 2).view.set := band_of_lit fun i hi => by
  have h : 128 ≤ (i 0).val ∧ (i 0).val < 128 + 64 := Rect.mem_set_unit.mp hi 0
  show (i 0).val / 64 = 2; omega
theorem sub3 : gM.view.setOn rB3.set ⊆ (bandM 3).view.set := band_of_lit fun i hi => by
  have h : 192 ≤ (i 0).val ∧ (i 0).val < 192 + 64 := Rect.mem_set_unit.mp hi 0
  show (i 0).val / 64 = 3; omega

/-! ## A device's buffer, whole and in bands -/

omit [FloatOps F] in
theorem over_devs (c : Dev nD) (Φ : Dev nD → sProp 𝕄) :
    bigSep Finset.univ Φ = iprop(Φ c ∗ Φ (fwd 0 c) ∗ Φ (fwd 1 c) ∗ Φ (fwd 2 c)) :=
  bigSep_univ_eq_bigSepL [c, fwd 0 c, fwd 1 c, fwd 2 c] (Finset.ext fun d => ⟨fun _ => List.mem_toFinset.mpr (devs_all c d), fun _ => Finset.mem_univ d⟩) (devs_nodup c) Φ
omit [FloatOps F] in
theorem over_devs' (Φ : Dev nD → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem over_cells (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

omit [FloatOps F] in
/-- The whole buffer is its four bands. -/
theorem whole_bands (c : Dev nD) (f : S256x256.Idx → F .bf16) :
    (((c : Thread nD τ).loc cc0_scratch0) ↦{fullShare} (f : Buf (Elt F) ((c : Thread nD τ).loc cc0_scratch0)) : sProp 𝕄)
      = bigSep Finset.univ fun d : Dev nD => bandPts c d fullShare f := by
  simp only [bandPts_eq]
  have h := Ring.pointsTo_blocks (Val := Elt F) (Ix := Unit) (Name := ℕ) (U := UU) (Lvl := ℕ) (ℓ := (c : Thread nD τ).loc cc0_scratch0) band band_disj band_cover
    (q := fullShare) (f : Buf (Elt F) ((c : Thread nD τ).loc cc0_scratch0))
  exact h

/-- What is held of the four bands when all have been read, with the three shares come back, is the whole buffer. -/
theorem bands_whole (c : Dev nD) :
    iprop((bigSep Finset.univ fun d : Dev nD => bandPts c d (qOf c d) (gAll m ρ))
        ∗ bandPts c c (qLend 0) (gAll m ρ) ∗ bandPts c c (qLend 1) (gAll m ρ) ∗ bandPts c c (qLend 2) (gAll m ρ))
      ⊢ (((c : Thread nD τ).loc cc0_scratch0) ↦{fullShare} (gAll m ρ : Buf (Elt F) ((c : Thread nD τ).loc cc0_scratch0)) : sProp 𝕄) := by
  rw [whole_bands, over_devs c, over_devs c]
  unfold qOf
  rw [if_pos rfl, if_neg (fwd_ne 0 c), if_neg (fwd_ne 1 c), if_neg (fwd_ne 2 c)]
  iintro ⟨⟨Hk, H0, H1, H2⟩, L0, L1, L2⟩
  isplitl [Hk L0 L1 L2]
  · iapply (bandPts_deal c c (gAll m ρ)).2
    isplitl [Hk]; · iexact Hk
    isplitl [L0]; · iexact L0
    isplitl [L1] <;> iassumption
  isplitl [H0]; · iexact H0
  isplitl [H1] <;> iassumption

/-- The kept share and the three credits, sorted by band. -/
theorem awaited_all (c : Dev nD) :
    iprop(bandPts c c qKeep (gAll m ρ) ∗ cred (tallyAt (recvCell c (fwd 0 c)) () N) ∗ cred (tallyAt (recvCell c (fwd 1 c)) () N)
        ∗ cred (tallyAt (recvCell c (fwd 2 c)) () N))
      ⊢ iprop(awaited m ρ c 0 ∗ awaited m ρ c 1 ∗ awaited m ρ c 2 ∗ awaited m ρ c 3) := by
  rw [← over_devs' (fun d => awaited m ρ c d), over_devs c]
  unfold awaited
  rw [if_pos rfl, if_neg (fwd_ne 0 c), if_neg (fwd_ne 1 c), if_neg (fwd_ne 2 c)]

/-! ## What the body starts from and ends in -/

/-- The tokens of the duties device `c` pays: one barrier unit to each other device, its own three send cells, and one
    receive cell on each other device. -/
def payToks (c : Dev nD) : sProp 𝕄 :=
  iprop((dutyTok ER (barCell (fwd 0 c)) 0 0 ∗ dutyTok ER (barCell (fwd 1 c)) 0 1 ∗ dutyTok ER (barCell (fwd 2 c)) 0 2)
    ∗ (dutyTok ER (sendCell c 0) 0 0 ∗ dutyTok ER (sendCell c 1) 0 0 ∗ dutyTok ER (sendCell c 2) 0 0)
    ∗ (dutyTok ER (recvCell (fwd 0 c) c) 0 0 ∗ dutyTok ER (recvCell (fwd 1 c) c) 0 0 ∗ dutyTok ER (recvCell (fwd 2 c) c) 0 0))

def ghost (K : Dev nD × Fin 8 → ℕ) (c : Dev nD) : sProp 𝕄 :=
  iprop(records m ρ K ∗ (bigSep Finset.univ fun j : Fin 8 => atPos ER (kcell (c, j)) 0 ∅ 0) ∗ payToks c)

/-- The credit to wait for its barrier and for the three copies onto it. -/
def credits (c : Dev nD) : sProp 𝕄 :=
  iprop(cred (tallyAt (barCell c) () 3) ∗ cred (tallyAt (recvCell c (fwd 0 c)) () N) ∗ cred (tallyAt (recvCell c (fwd 1 c)) () N)
    ∗ cred (tallyAt (recvCell c (fwd 2 c)) () N))

def start (c : Dev nD) : sProp 𝕄 := iprop((∃ K, ghost m ρ K c) ∗ credits c ∗ levAts L lv)

/-- The device's shared buffer, whole, at contents `f`. -/
def gWhole (c : Dev nD) (f : S256x256.Idx → F .bf16) : sProp 𝕄 :=
  ((c : Thread nD τ).loc cc0_scratch0) ↦{fullShare} (f : Buf (Elt F) ((c : Thread nD τ).loc cc0_scratch0))

def Φ₀ (c : Dev nD) : sProp 𝕄 := iprop(start m ρ c ∗ ∃ f, gWhole c f)
/-- Afterwards: the buffer, and every one of the device's cells closed at zero. -/
def Φ₁ (c : Dev nD) : sProp 𝕄 := iprop((∃ f, gWhole c f) ∗ bigSep Finset.univ fun j : Fin 8 => semVal (kcell (c, j)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m ρ c
    | ⟨1, _⟩ => tst m ρ c
    | ⟨2, _⟩ => wst m ρ c
    | ⟨3, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

def pt0 : Fin cfg0.N := t0_0
theorem fin_N (t : Fin cfg0.N) : t = pt0 := fin_N0 t

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 8 → ℕ) (c : Dev nD) : sProp 𝕄 :=
  iprop((ghost m ρ K c ∗ credits c ∗ levAts L lv ∗ ∃ f, gWhole c f)
    ∗ (dats m ρ 0 c).owesAt () pt0.castSucc
    ∗ (∃ d, stg c cc0_stg0_0 ((dats m ρ 0 c).before (0 : Fin 4) pt0 d))
    ∗ (∃ d, stg c cc0_stg1_0 ((dats m ρ 0 c).before (1 : Fin 4) pt0 d))
    ∗ (∃ d, stg c cc0_stg2_0 ((dats m ρ 0 c).before (2 : Fin 4) pt0 d))
    ∗ (∃ d, stg c cc0_stg3_0 ((dats m ρ 0 c).before (3 : Fin 4) pt0 d)))

def bodyPost (c : Dev nD) : sProp 𝕄 :=
  iprop(Φ₁ c ∗ (dats m ρ 0 c).owesAt () pt0.succ ∗ stg c cc0_stg0_0 (xst m ρ c) ∗ stg c cc0_stg1_0 (tst m ρ c)
    ∗ stg c cc0_stg2_0 (wst m ρ c) ∗ stg c cc0_stg3_0 (outAt m ρ c))

/-! ## Whole loads and stores -/

theorem hz2 : (![0, 0] : Fin 2 → Nat) = fun _ => 0 := funext fun a => by fin_cases a <;> rfl
omit [FloatOps F] in
theorem read_x (f : (cc0_stg0_0 : Ref sig .tc).ty.Contents (Elt F)) :
    xM.view.readAt (Elt F) (Rect.unit (s := S256x128) ![0, 0] S256x128.size inb_S256x128_S256x128_0_0).toLoadRect f = f :=
  Memref.readAt_unit_zero (Elt F) cc0_stg0_0 hz2 _ f
omit [FloatOps F] in
theorem read_t (f : (cc0_stg1_0 : Ref sig .tc).ty.Contents (Elt F)) :
    tM.view.readAt (Elt F) (Rect.unit (s := S256x1) ![0, 0] S256x1.size inb_S256x1_S256x1_0_0).toLoadRect f = f :=
  Memref.readAt_unit_zero (Elt F) cc0_stg1_0 hz2 _ f
abbrev rO : Rect S256x256 := Rect.unit (s := S256x256) ![0, 0] S256x256.size inb_S256x256_S256x256_0_0
omit [FloatOps F] in
theorem read_o (f : (cc0_stg3_0 : Ref sig .tc).ty.Contents (Elt F)) : oM.view.readAt (Elt F) rO.toLoadRect f = f :=
  Memref.readAt_unit_zero (Elt F) cc0_stg3_0 hz2 _ f
omit [FloatOps F] in
theorem write_o (f w : (cc0_stg3_0 : Ref sig .tc).ty.Contents (Elt F)) :
    (oM.access rO : View sig .tc _ _ _).write (Elt F) f w Finset.univ = w :=
  Memref.write_access_unit_zero_univ (Elt F) cc0_stg3_0 hz2 _ f w

/-! ## Loads and stores as steps -/

abbrev xPts (c : Dev nD) (f : (cc0_stg0_0 : Ref sig .tc).ty.Contents (Elt F)) : sProp 𝕄 :=
  ((c : Thread nD τ).loc cc0_stg0_0) ↦{fullShare} (f : Buf (Elt F) ((c : Thread nD τ).loc cc0_stg0_0))
abbrev tPts (c : Dev nD) (f : (cc0_stg1_0 : Ref sig .tc).ty.Contents (Elt F)) : sProp 𝕄 :=
  ((c : Thread nD τ).loc cc0_stg1_0) ↦{fullShare} (f : Buf (Elt F) ((c : Thread nD τ).loc cc0_stg1_0))
abbrev wPts (c : Dev nD) (f : (cc0_stg2_0 : Ref sig .tc).ty.Contents (Elt F)) : sProp 𝕄 :=
  ((c : Thread nD τ).loc cc0_stg2_0) ↦{fullShare} (f : Buf (Elt F) ((c : Thread nD τ).loc cc0_stg2_0))
abbrev oPts (c : Dev nD) (f : (cc0_stg3_0 : Ref sig .tc).ty.Contents (Elt F)) : sProp 𝕄 :=
  ((c : Thread nD τ).loc cc0_stg3_0) ↦{fullShare} (f : Buf (Elt F) ((c : Thread nD τ).loc cc0_stg3_0))

section Steps
variable {α : Type}

theorem loadX_step (c : Dev nD) (f : (cc0_stg0_0 : Ref sig .tc).ty.Contents (Elt F)) {hl} {Q : α → sProp 𝕄}
    {kk : Vec F S256x128 .bf16 → Prog (TpuEff nD τ sig (Elt F) Λ₀ .tc) α} :
    xPts c f ⊢ iprop((xPts c f -∗ wp frame (wpE (defs₀ (F := F)) 𝒱₀ (c : Thread nD τ) none) Set.univ (kk f) Q)
      -∗ wp frame (wpE (defs₀ (F := F)) 𝒱₀ (c : Thread nD τ) none) Set.univ
          (.op (.load xM (Rect.unit (s := S256x128) ![0, 0] S256x128.size inb_S256x128_S256x128_0_0).toLoadRect hl) kk) Q) := by
  iintro H Hk
  iapply (wp_load 𝒱₀ (c : Thread nD τ) none Set.univ (m := xM) (Finset.subset_univ _)) $$ H; iintro H
  rw [read_x]
  iapply Hk; iexact H
theorem loadT_step (c : Dev nD) (f : (cc0_stg1_0 : Ref sig .tc).ty.Contents (Elt F)) {hl} {Q : α → sProp 𝕄}
    {kk : Vec F S256x1 .i32 → Prog (TpuEff nD τ sig (Elt F) Λ₀ .tc) α} :
    tPts c f ⊢ iprop((tPts c f -∗ wp frame (wpE (defs₀ (F := F)) 𝒱₀ (c : Thread nD τ) none) Set.univ (kk f) Q)
      -∗ wp frame (wpE (defs₀ (F := F)) 𝒱₀ (c : Thread nD τ) none) Set.univ
          (.op (.load tM (Rect.unit (s := S256x1) ![0, 0] S256x1.size inb_S256x1_S256x1_0_0).toLoadRect hl) kk) Q) := by
  iintro H Hk
  iapply (wp_load 𝒱₀ (c : Thread nD τ) none Set.univ (m := tM) (Finset.subset_univ _)) $$ H; iintro H
  rw [read_t]
  iapply Hk; iexact H
theorem loadO_step (c : Dev nD) (f : (cc0_stg3_0 : Ref sig .tc).ty.Contents (Elt F)) {hl} {Q : α → sProp 𝕄}
    {kk : Vec F S256x256 .f32 → Prog (TpuEff nD τ sig (Elt F) Λ₀ .tc) α} :
    oPts c f ⊢ iprop((oPts c f -∗ wp frame (wpE (defs₀ (F := F)) 𝒱₀ (c : Thread nD τ) none) Set.univ (kk f) Q)
      -∗ wp frame (wpE (defs₀ (F := F)) 𝒱₀ (c : Thread nD τ) none) Set.univ (.op (.load oM rO.toLoadRect hl) kk) Q) := by
  iintro H Hk
  iapply (wp_load 𝒱₀ (c : Thread nD τ) none Set.univ (m := oM) (Finset.subset_univ _)) $$ H; iintro H
  rw [read_o]
  iapply Hk; iexact H
theorem loadW_step (c : Dev nD) (f : (cc0_stg2_0 : Ref sig .tc).ty.Contents (Elt F)) (r : Rect S2x128x256) {hl} {Q : α → sProp 𝕄}
    {kk : Vec F r.shape .bf16 → Prog (TpuEff nD τ sig (Elt F) Λ₀ .tc) α} :
    wPts c f ⊢ iprop((wPts c f -∗ wp frame (wpE (defs₀ (F := F)) 𝒱₀ (c : Thread nD τ) none) Set.univ (kk (wM.view.readAt (Elt F) r.toLoadRect f)) Q)
      -∗ wp frame (wpE (defs₀ (F := F)) 𝒱₀ (c : Thread nD τ) none) Set.univ (.op (.load wM r.toLoadRect hl) kk) Q) :=
  wp_load (defs := defs₀ (F := F)) 𝒱₀ (c : Thread nD τ) none Set.univ (m := wM) (Finset.subset_univ _)

theorem storeO_step (c : Dev nD) (f w : (cc0_stg3_0 : Ref sig .tc).ty.Contents (Elt F)) {hx hm} {Q : α → sProp 𝕄}
    {kk : PUnit → Prog (TpuEff nD τ sig (Elt F) Λ₀ .tc) α} :
    oPts c f ⊢ iprop((oPts c w -∗ wp frame (wpE (defs₀ (F := F)) 𝒱₀ (c : Thread nD τ) none) Set.univ (kk ⟨⟩) Q)
      -∗ wp frame (wpE (defs₀ (F := F)) 𝒱₀ (c : Thread nD τ) none) Set.univ (.op (.store oM rO w Finset.univ hx hm) kk) Q) := by
  iintro H Hk
  iapply (wp_store 𝒱₀ (c : Thread nD τ) none Set.univ (m := oM) (r := rO) (Mk := Finset.univ) (Finset.subset_univ _)) $$ H; iintro H
  rw [write_o]
  iapply Hk; iexact H

/-- A load of a rectangle of the shared buffer, off the band it lies in. -/
theorem loadG_step (c d : Dev nD) (q) (f : S256x256.Idx → F .bf16) (r : Rect S256x256) (hs : gM.view.setOn r.set ⊆ (bandM d).view.set) {hl} {Q : α → sProp 𝕄}
    {kk : Vec F r.shape .bf16 → Prog (TpuEff nD τ sig (Elt F) Λ₀ .tc) α} :
    bandPts c d q f ⊢ iprop((bandPts c d q f -∗ wp frame (wpE (defs₀ (F := F)) 𝒱₀ (c : Thread nD τ) none) Set.univ (kk (readB r f)) Q)
      -∗ wp frame (wpE (defs₀ (F := F)) 𝒱₀ (c : Thread nD τ) none) Set.univ (.op (.load gM r.toLoadRect hl) kk) Q) :=
  wp_load (defs := defs₀ (F := F)) 𝒱₀ (c : Thread nD τ) none Set.univ (m := gM) hs

/-- A store to a rectangle of the shared buffer, in the band it lies in. -/
theorem storeG_step (c d : Dev nD) (f : S256x256.Idx → F .bf16) (r : Rect S256x256) (w : r.shape.Idx → F .bf16) (hs : r.set ⊆ (bandM d).view.set) {hx hm}
    {Q : α → sProp 𝕄} {kk : PUnit → Prog (TpuEff nD τ sig (Elt F) Λ₀ .tc) α} :
    bandPts c d fullShare f
      ⊢ iprop((bandPts c d fullShare ((gM.access r).write (Elt F) f w Finset.univ)
            -∗ wp frame (wpE (defs₀ (F := F)) 𝒱₀ (c : Thread nD τ) none) Set.univ (kk ⟨⟩) Q)
          -∗ wp frame (wpE (defs₀ (F := F)) 𝒱₀ (c : Thread nD τ) none) Set.univ (.op (.store gM r w Finset.univ hx hm) kk) Q) :=
  wp_store (defs := defs₀ (F := F)) 𝒱₀ (c : Thread nD τ) none Set.univ (m := gM) (r := r) (by rw [access_setOn]; exact hs)

variable (K : Dev nD × Fin 8 → ℕ)

/-- `recv_step`, the continuation inside both branches. -/
theorem recv_step' (c d : Dev nD) (b : BitVec 1) (hb : b = 1#1 ↔ d ≠ c) (rS : DmaSem sig) (hr : rS = recvS d)
    {src : b = 1#1 → Memref sig .tc .vmem S64x256 .bf16} {dst : Memref sig .tc .vmem S64x256 .bf16} (hdst : dst.view.dmaCredit = N)
    {h1 : ∀ h, (src h).view.WordExact} {h2 : dst.view.WordExact} {Q : α → sProp 𝕄} {kk : PUnit → Prog (TpuEff nD τ sig (Elt F) Λ₀ .tc) α} :
    iprop(records m ρ K ∗ owesAny c 0 ∗ awaited m ρ c d ∗ atPos ER (recvCell c d) 0 ∅ 0)
      ⊢ iprop(((owesAny c 0 ∗ semVal (recvCell c d) 0 ∗ bandPts c d (qOf c d) (gAll m ρ))
            -∗ wp frame (wpE (defs₀ (F := F)) 𝒱₀ (c : Thread nD τ) none) Set.univ (kk ⟨⟩) Q)
          -∗ wp frame (wpE (defs₀ (F := F)) 𝒱₀ (c : Thread nD τ) none) Set.univ
              (if h : b = 1#1 then .op (.waitDma2 rS (src h) dst (h1 h) h2) kk else kk ⟨⟩) Q) := by
  have e : (if h : b = 1#1 then (Prog.op (.waitDma2 rS (src h) dst (h1 h) h2) kk : Prog (TpuEff nD τ sig (Elt F) Λ₀ .tc) α) else kk ⟨⟩)
      = ((if h : b = 1#1 then (.op (.waitDma2 rS (src h) dst (h1 h) h2) .ret : Prog (TpuEff nD τ sig (Elt F) Λ₀ .tc) PUnit) else .ret ⟨⟩) >>= kk) := by
    by_cases h : b = 1#1
    · rw [dif_pos h, dif_pos h]; rfl
    · rw [dif_neg h, dif_neg h]; rfl
  rw [e]
  exact recv_step m ρ K c d b hb rS hr src dst hdst h1 h2

end Steps

/-! ## The two parts that copy and accumulate -/

variable (K : Dev nD × Fin 8 → ℕ)

set_option maxHeartbeats 1000000 in
theorem part5_step (c : Dev nD) (v2 : BitVec 32) (v64 : IVec S256x1 1) (v70 : IVec S256x1 32) (w1 w2 w3 : BitVec 32)
    (f : S256x256.Idx → F .bf16) (o : (cc0_stg3_0 : Ref sig .tc).ty.Contents (Elt F))
    (Q : (Σ' (v171 : FVec F S256x256 .bf16), FVec F S256x256 .f32) → sProp 𝕄) :
    iprop(records m ρ K ∗ owesAny c (oSend2 c) ∗ bandPts c c (qLend 2) (gAll m ρ) ∗ bandPts (fwd 2 c) c fullShare f
        ∗ dutyTok ER (sendCell c 2) 0 0 ∗ dutyTok ER (recvCell (fwd 2 c) c) 0 0 ∗ oPts c o ∗ awaited m ρ c 0 ∗ atPos ER (recvCell c 0) 0 ∅ 0)
      ⊢ iprop(((owesAny c 0 ∗ cred (tallyAt (sendCell c 2) () N) ∗ oPts c (k0_pay11 (F := F)) ∗ semVal (recvCell c 0) 0 ∗ bandPts c 0 (qOf c 0) (gAll m ρ))
            -∗ Q ⟨k0_pay10 v64 v70, k0_pay12 v64 v70 (k0_pay11 (F := F)) (readB rB0 (gAll m ρ))⟩)
          -∗ wp frame (wpE (defs₀ (F := F)) 𝒱₀ (c : Thread nD τ) none) Set.univ
            (k0_part5_skel (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2 c v2 v64 v70 w1 w2 w3) Q) := by
  unfold k0_part5_skel
  simp only [Prog.lift, Prog.bind_op, Prog.bind_ret, Prog.pure_eq_ret]
  iintro ⟨#HR, HO, Hs, Hd, Ts, Tr, Hout, Haw, Hat⟩ Hk
  iapply (send_step m ρ K c _ 2 (dev6_eq c) _ _ sendS2 (recvS_dev c) 0 f) $$ [HO Hs Hd Ts Tr]
  · isplitr; · iexact HR
    isplitl [HO]; · rw [zero_add]; iexact HO
    isplitl [Hs]; · iexact Hs
    isplitl [Hd]; · iexact Hd
    isplitl [Ts] <;> iassumption
  iintro ⟨HO, Hc⟩
  iapply (loadO_step c o) $$ Hout; iintro Hout
  iapply (storeO_step c o (k0_pay11 (F := F))) $$ Hout; iintro Hout
  iapply (recv_step' m ρ K c 0 _ (cond1_iff c) _ recvS0 (src := fun h => gM.slice (Rect.unit (s := S256x256) (k0_off4 c) S64x256.size (k0_off4_inb c h)) (fun _ => rfl))
      (dst := gM.slice rB0 (fun _ => rfl)) rfl (h1 := fun h => (Memref.isWhole_whole cc0_scratch0).wordExact_slice rfl _ (k0_off4_wordsbf16 c h))
      (h2 := (Memref.isWhole_whole cc0_scratch0).wordExact_slice rfl _ wordsbf16_S256x256_S64x256_0_0)) $$ [HO Haw Hat]
  · isplitr; · iexact HR
    isplitl [HO]; · iexact HO
    isplitl [Haw] <;> iassumption
  iintro ⟨HO, Hz, Hb⟩
  iapply (loadO_step c _) $$ Hout; iintro Hout
  iapply (loadG_step c 0 _ _ _ sub0) $$ Hb; iintro Hb
  rw [wp_ret]; imodintro
  iapply Hk
  isplitl [HO]; · iexact HO
  isplitl [Hc]; · iexact Hc
  isplitl [Hout]; · iexact Hout
  isplitl [Hz] <;> iassumption

set_option maxHeartbeats 1000000 in
theorem part6_step (c : Dev nD) (v2 : BitVec 32) (v171 : FVec F S256x256 .bf16) (v182 : FVec F S256x256 .f32)
    (o : (cc0_stg3_0 : Ref sig .tc).ty.Contents (Elt F))
    (Q : (Σ' (v208 : FVec F S256x256 .f32) (v209 : FVec F S256x64 .bf16) (v210 : Vec F S64x256 .bf16), FVec F S256x256 .f32) → sProp 𝕄) :
    iprop(records m ρ K ∗ owesAny c 0 ∗ oPts c o ∗ (awaited m ρ c 1 ∗ awaited m ρ c 2 ∗ awaited m ρ c 3)
        ∗ (atPos ER (recvCell c 1) 0 ∅ 0 ∗ atPos ER (recvCell c 2) 0 ∅ 0 ∗ atPos ER (recvCell c 3) 0 ∅ 0))
      ⊢ iprop(((owesAny c 0
            ∗ oPts c (k0_pay14 v171 (k0_pay13 v171 v182 (readB rB1 (gAll m ρ))) (readB rB2 (gAll m ρ)))
            ∗ (semVal (recvCell c 1) 0 ∗ semVal (recvCell c 2) 0 ∗ semVal (recvCell c 3) 0)
            ∗ (bandPts c 1 (qOf c 1) (gAll m ρ) ∗ bandPts c 2 (qOf c 2) (gAll m ρ) ∗ bandPts c 3 (qOf c 3) (gAll m ρ)))
            -∗ Q ⟨k0_pay15 (k0_pay14 v171 (k0_pay13 v171 v182 (readB rB1 (gAll m ρ))) (readB rB2 (gAll m ρ))), k0_pay16 v171, readB rB3 (gAll m ρ),
                constant S256x256 .f32 0x00000000#32⟩)
          -∗ wp frame (wpE (defs₀ (F := F)) 𝒱₀ (c : Thread nD τ) none) Set.univ
            (k0_part6_skel (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2 c v2 v171 v182) Q) := by
  unfold k0_part6_skel
  simp only [Prog.lift, Prog.bind_op, Prog.bind_ret, Prog.pure_eq_ret]
  iintro ⟨#HR, HO, Hout, ⟨W1, W2, W3⟩, ⟨A1, A2, A3⟩⟩ Hk
  iapply (loadO_step c o) $$ Hout; iintro Hout
  iapply (storeO_step c o v182) $$ Hout; iintro Hout
  iapply (recv_step' m ρ K c 1 _ (cond2_iff c) _ recvS1 (src := fun h => gM.slice (Rect.unit (s := S256x256) (k0_off5 c) S64x256.size (k0_off5_inb c h)) (fun _ => rfl))
      (dst := gM.slice rB1 (fun _ => rfl)) rfl (h1 := fun h => (Memref.isWhole_whole cc0_scratch0).wordExact_slice rfl _ (k0_off5_wordsbf16 c h))
      (h2 := (Memref.isWhole_whole cc0_scratch0).wordExact_slice rfl _ wordsbf16_S256x256_S64x256_64_0)) $$ [HO W1 A1]
  · isplitr; · iexact HR
    isplitl [HO]; · iexact HO
    isplitl [W1] <;> iassumption
  iintro ⟨HO, Z1, B1⟩
  iapply (loadO_step c _) $$ Hout; iintro Hout
  iapply (loadG_step c 1 _ _ _ sub1) $$ B1; iintro B1
  iapply (loadO_step c _) $$ Hout; iintro Hout
  iapply (storeO_step c _ (k0_pay13 v171 v182 (readB rB1 (gAll m ρ)))) $$ Hout; iintro Hout
  iapply (recv_step' m ρ K c 2 _ (cond3_iff c) _ recvS2 (src := fun h => gM.slice (Rect.unit (s := S256x256) (k0_off6 c) S64x256.size (k0_off6_inb c h)) (fun _ => rfl))
      (dst := gM.slice rB2 (fun _ => rfl)) rfl (h1 := fun h => (Memref.isWhole_whole cc0_scratch0).wordExact_slice rfl _ (k0_off6_wordsbf16 c h))
      (h2 := (Memref.isWhole_whole cc0_scratch0).wordExact_slice rfl _ wordsbf16_S256x256_S64x256_128_0)) $$ [HO W2 A2]
  · isplitr; · iexact HR
    isplitl [HO]; · iexact HO
    isplitl [W2] <;> iassumption
  iintro ⟨HO, Z2, B2⟩
  iapply (loadO_step c _) $$ Hout; iintro Hout
  iapply (loadG_step c 2 _ _ _ sub2) $$ B2; iintro B2
  iapply (loadO_step c _) $$ Hout; iintro Hout
  iapply (storeO_step c _ (k0_pay14 v171 (k0_pay13 v171 v182 (readB rB1 (gAll m ρ))) (readB rB2 (gAll m ρ)))) $$ Hout; iintro Hout
  iapply (recv_step' m ρ K c 3 _ (cond4_iff c) _ recvS3 (src := fun h => gM.slice (Rect.unit (s := S256x256) (k0_off7 c) S64x256.size (k0_off7_inb c h)) (fun _ => rfl))
      (dst := gM.slice rB3 (fun _ => rfl)) rfl (h1 := fun h => (Memref.isWhole_whole cc0_scratch0).wordExact_slice rfl _ (k0_off7_wordsbf16 c h))
      (h2 := (Memref.isWhole_whole cc0_scratch0).wordExact_slice rfl _ wordsbf16_S256x256_S64x256_192_0)) $$ [HO W3 A3]
  · isplitr; · iexact HR
    isplitl [HO]; · iexact HO
    isplitl [W3] <;> iassumption
  iintro ⟨HO, Z3, B3⟩
  iapply (loadO_step c _) $$ Hout; iintro Hout
  iapply (loadG_step c 3 _ _ _ sub3) $$ B3; iintro B3
  rw [wp_ret]; imodintro
  iapply Hk
  isplitl [HO]; · iexact HO
  isplitl [Hout]; · iexact Hout
  isplitl [Z1 Z2 Z3]
  · isplitl [Z1]; · iexact Z1
    isplitl [Z2] <;> iassumption
  isplitl [B1]; · iexact B1
  isplitl [B2] <;> iassumption

/-! ## The whole body -/

omit [FloatOps F] in
theorem split_bands (c : Dev nD) (f : S256x256.Idx → F .bf16) :
    (gWhole c f : sProp 𝕄) ⊢ iprop(bandPts c c fullShare f ∗ bandPts c (fwd 0 c) fullShare f ∗ bandPts c (fwd 1 c) fullShare f ∗ bandPts c (fwd 2 c) fullShare f) := by
  rw [gWhole, whole_bands, over_devs c]

omit [FloatOps F] in
theorem owes_any (c : Dev nD) (O : CellTallies nD τ sig Unit) (W) : (owes (c : Thread nD τ) O W : sProp 𝕄) ⊢ owesAny c O := by
  unfold owesAny; iintro H; iexists W; iexact H

theorem stored_eq (c : Dev nD) (f : S256x256.Idx → F .bf16) :
    (bandPts c c fullShare ((gM.access (rBot c)).write (Elt F)
        ((gM.access (rTop c)).write (Elt F) f (topOf c (xst m ρ c) (tst m ρ c) (wst m ρ c)) Finset.univ)
        (botOf c (xst m ρ c) (tst m ρ c) (wst m ρ c)) Finset.univ) : sProp 𝕄)
      = bandPts c c fullShare (gAll m ρ) := bandPts_congr c c fullShare (band_stored m ρ c f)

set_option maxHeartbeats 4000000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel
  simp only [semSignalWord, semWaitWord, Prog.lift, Prog.bind_op, Prog.bind_ret, Prog.pure_eq_ret, wp_deviceId]
  unfold bodyPre ghost credits payToks
  rw [over_cells]
  iintro ⟨⟨⟨⟨#HR, ⟨AB, A0, A1, A2, V0, V1, V2, V3⟩, ⟨TB0, TB1, TB2⟩, ⟨TS0, TS1, TS2⟩, ⟨TR0, TR1, TR2⟩⟩, ⟨CB, CR0, CR1, CR2⟩, #Hlev, ⟨%f0, Hg⟩⟩,
    Ho, ⟨%d0, %g0, %hg0, Hx⟩, ⟨%d1, %g1, %hg1, Ht⟩, ⟨%d2, %g2, %hg2, Hw⟩, ⟨%d3, %g3, %hg3, Hout⟩⟩, Hk⟩
  have hx : g0 = xst m ρ c := by rw [hg0]; unfold Dat.before; rw [if_pos (fetch0_0 pt0)]; rfl
  have ht : g1 = tst m ρ c := by rw [hg1]; unfold Dat.before; rw [if_pos (fetch0_1 pt0)]; rfl
  have hw : g2 = wst m ρ c := by rw [hg2]; unfold Dat.before; rw [if_pos (fetch0_2 pt0)]; rfl
  subst hx ht hw
  unfold Dat.owesAt Pipeline.owesWithin
  icases Ho with ⟨%W0, %hW0, HO⟩
  rw [show (dats m ρ 0 c).owed pt0.castSucc = O₀ c from rfl]
  ihave HO := (owes_any c (O₀ c) W0) $$ HO
  ihave Hg := (split_bands c f0) $$ Hg
  icases Hg with ⟨Gc, G0, G1, G2⟩
  unfold O₀
  iapply (signal_step m ρ K c _ 0 (dev1_eq c) (oBar1 c) f0) $$ [HO TB0 G0]
  · isplitr; · iexact HR
    isplitl [HO]; · iexact HO
    isplitl [TB0] <;> iassumption
  iintro HO
  unfold oBar1
  iapply (signal_step m ρ K c _ 1 (dev2_eq c) (oBar2 c) f0) $$ [HO TB1 G1]
  · isplitr; · iexact HR
    isplitl [HO]; · iexact HO
    isplitl [TB1] <;> iassumption
  iintro HO
  unfold oBar2
  iapply (signal_step m ρ K c _ 2 (dev3_eq c) (oSend0 c) f0) $$ [HO TB2 G2]
  · isplitr; · iexact HR
    isplitl [HO]; · iexact HO
    isplitl [TB2] <;> iassumption
  iintro HO
  iapply (loadT_step c _) $$ Ht; iintro Ht
  iapply (loadX_step c _) $$ Hx; iintro Hx
  iapply (loadW_step c _ rW0) $$ Hw; iintro Hw
  iapply (loadG_step c c _ _ (rTop c) (by rw [view_setOn]; exact top_sub c)) $$ Gc; iintro Gc
  iapply (storeG_step c c _ (rTop c) (topOf c (xst m ρ c) (tst m ρ c) (wst m ρ c)) (top_sub c)) $$ Gc; iintro Gc
  iapply (loadW_step c _ rW1) $$ Hw; iintro Hw
  iapply (loadG_step c c _ _ (rBot c) (by rw [view_setOn]; exact bot_sub c)) $$ Gc; iintro Gc
  iapply (storeG_step c c _ (rBot c) (botOf c (xst m ρ c) (tst m ρ c) (wst m ρ c)) (bot_sub c)) $$ Gc; iintro Gc
  ihave Gc := (Entails.of_eq (stored_eq m ρ c f0)) $$ Gc
  iapply (barrier_step m ρ K c) $$ [HO CB AB]
  · isplitr; · iexact HR
    isplitr; · iexact Hlev
    isplitl [HO]; · iexact HO
    isplitl [CB] <;> iassumption
  unfold barPay
  iintro ⟨HO, ZB, ⟨%e2, D2⟩, ⟨%e1, D1⟩, ⟨%e0, D0⟩⟩
  ihave Gc := (bandPts_deal c c (gAll m ρ)).1 $$ Gc
  icases Gc with ⟨Gk, L0, L1, L2⟩
  unfold oSend0
  iapply (send_step m ρ K c _ 0 (dev4_eq c) _ _ sendS0 (recvS_dev c) (oSend1 c) e0) $$ [HO L0 D0 TS0 TR0]
  · isplitr; · iexact HR
    isplitl [HO]; · iexact HO
    isplitl [L0]; · iexact L0
    isplitl [D0]; · iexact D0
    isplitl [TS0] <;> iassumption
  iintro ⟨HO, CS0⟩
  unfold oSend1
  iapply (send_step m ρ K c _ 1 (dev5_eq c) _ _ sendS1 (recvS_dev c) (oSend2 c) e1) $$ [HO L1 D1 TS1 TR1]
  · isplitr; · iexact HR
    isplitl [HO]; · iexact HO
    isplitl [L1]; · iexact L1
    isplitl [D1]; · iexact D1
    isplitl [TS1] <;> iassumption
  iintro ⟨HO, CS1⟩
  ihave HW := (awaited_all m ρ c) $$ [Gk CR0 CR1 CR2]
  · isplitl [Gk]; · iexact Gk
    isplitl [CR0]; · iexact CR0
    isplitl [CR1] <;> iassumption
  icases HW with ⟨HW0, HW1, HW2, HW3⟩
  rw [wp_bind]
  iapply (part5_step m ρ K c _ _ _ _ _ _ e2 g3 _) $$ [HO L2 D2 TS2 TR2 Hout HW0 V0]
  · isplitr; · iexact HR
    isplitl [HO]; · iexact HO
    isplitl [L2]; · iexact L2
    isplitl [D2]; · iexact D2
    isplitl [TS2]; · iexact TS2
    isplitl [TR2]; · iexact TR2
    isplitl [Hout]; · iexact Hout
    isplitl [HW0] <;> iassumption
  iintro ⟨HO, CS2, Hout, Z0, B0⟩
  dsimp only
  rw [wp_bind]
  iapply (part6_step m ρ K c _ _ _ _ _) $$ [HO Hout HW1 HW2 HW3 V1 V2 V3]
  · isplitr; · iexact HR
    isplitl [HO]; · iexact HO
    isplitl [Hout]; · iexact Hout
    isplitl [HW1 HW2 HW3]
    · isplitl [HW1]; · iexact HW1
      isplitl [HW2] <;> iassumption
    isplitl [V1]; · iexact V1
    isplitl [V2] <;> iassumption
  iintro ⟨HO, Hout, ⟨Z1, Z2, Z3⟩, ⟨B1, B2, B3⟩⟩
  dsimp only
  iapply (loadO_step c _) $$ Hout; iintro Hout
  iapply (storeO_step c _ (outAt m ρ c)) $$ Hout; iintro Hout
  iapply (sent_step m ρ K c 0 _ sendS0) $$ [HO CS0 A0]
  · isplitr; · iexact HR
    isplitl [HO]; · iexact HO
    isplitl [CS0] <;> iassumption
  iintro ⟨HO, Y0, L0⟩
  iapply (sent_step m ρ K c 1 _ sendS1) $$ [HO CS1 A1]
  · isplitr; · iexact HR
    isplitl [HO]; · iexact HO
    isplitl [CS1] <;> iassumption
  iintro ⟨HO, Y1, L1⟩
  iapply (sent_step m ρ K c 2 _ sendS2) $$ [HO CS2 A2]
  · isplitr; · iexact HR
    isplitl [HO]; · iexact HO
    isplitl [CS2] <;> iassumption
  iintro ⟨HO, Y2, L2⟩
  rw [wp_ret]; imodintro
  iapply Hk
  unfold bodyPost Φ₁ Dat.owesAt Pipeline.owesWithin owesAny
  rw [show (dats m ρ 0 c).owed pt0.succ = 0 from rfl, over_cells]
  isplitl [B0 B1 B2 B3 L0 L1 L2 ZB Y0 Y1 Y2 Z0 Z1 Z2 Z3]
  · isplitl [B0 B1 B2 B3 L0 L1 L2]
    · iexists (gAll m ρ)
      unfold gWhole
      iapply (bands_whole m ρ c)
      rw [over_devs']
      isplitl [B0 B1 B2 B3]
      · isplitl [B0]; · iexact B0
        isplitl [B1]; · iexact B1
        isplitl [B2] <;> iassumption
      isplitl [L0]; · iexact L0
      isplitl [L1] <;> iassumption
    isplitl [ZB]; · iexact ZB
    isplitl [Y0]; · iexact Y0
    isplitl [Y1]; · iexact Y1
    isplitl [Y2]; · iexact Y2
    isplitl [Z0]; · iexact Z0
    isplitl [Z1]; · iexact Z1
    isplitl [Z2] <;> iassumption
  isplitl [HO]
  · icases HO with ⟨%W', HO⟩
    iexists W'
    isplitr; · ipureintro; exact fun _ _ => Or.inl trivial
    iexact HO
  isplitl [Hx]; · iexists _; isplitr; · ipureintro; rfl
                  iexact Hx
  isplitl [Ht]; · iexists _; isplitr; · ipureintro; rfl
                  iexact Ht
  isplitl [Hw]; · iexists _; isplitr; · ipureintro; rfl
                  iexact Hw
  iexists _; isplitr; · ipureintro; rfl
  iexact Hout

end Cert.KernelIdeal.Moe
-- ==== Proof.IdealLaunch.lean ====
module

public import proofs.«01_k».proof.Proof.IdealBody
public import Idealize.ShloMosaic.Lib.Quiescent
public import Idealize.ShloMosaic.Lib.Pipeline.Regions
public import Idealize.ShloMosaic.Lib.Pipeline.CollectiveSegs

@[expose] public section

noncomputable section

/-! # The launch: every device's cells funded, dealt and closed; the run of the whole program -/

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body as the pipeline asks for it -/

def bodyStart (c : Dev nD) : sProp 𝕄 :=
  iprop(Φ₀ m ρ c ∗ (dats m ρ 0 c).owesAt () pt0.castSucc
    ∗ (∃ d, stg c cc0_stg0_0 ((dats m ρ 0 c).before (0 : Fin 4) pt0 d))
    ∗ (∃ d, stg c cc0_stg1_0 ((dats m ρ 0 c).before (1 : Fin 4) pt0 d))
    ∗ (∃ d, stg c cc0_stg2_0 ((dats m ρ 0 c).before (2 : Fin 4) pt0 d))
    ∗ (∃ d, stg c cc0_stg3_0 ((dats m ρ 0 c).before (3 : Fin 4) pt0 d)))

set_option maxRecDepth 4000 in
set_option maxHeartbeats 1000000 in
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyStart m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) cc0_scratch1 cc0_scratch2) (fun _ => bodyPost m ρ c)
  unfold bodyStart Φ₀ start
  iintro ⟨⟨⟨⟨%K, Hg⟩, Hc, Hl⟩, Hb⟩, Ho, Hx, Ht, Hw, Hout⟩
  iapply (sound_body m ρ K c fun _ => bodyPost m ρ c)
  unfold bodyPre
  isplitr []
  · isplitl [Hg Hc Hl Hb]
    · isplitl [Hg]; · iexact Hg
      isplitl [Hc]; · iexact Hc
      isplitl [Hl] <;> iassumption
    isplitl [Ho]; · iexact Ho
    isplitl [Hx]; · iexact Hx
    isplitl [Ht]; · iexact Ht
    isplitl [Hw] <;> iassumption
  · iintro H; iexact H

/-! ## The cells -/

/-- The kernel's own semaphores: three to send on, four to receive on. -/
abbrev osem : Fin 7 → SemLoc sig := fun
  | 0 => .dma (sendS 0) | 1 => .dma (sendS 1) | 2 => .dma (sendS 2)
  | 3 => .dma (recvS 0) | 4 => .dma (recvS 1) | 5 => .dma (recvS 2) | 6 => .dma (recvS 3)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide
theorem kcell_injective : Function.Injective (kcell : Dev nD × Fin 8 → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- The tokens of a device's own cells' duties: the barrier's three, the three sends', and of the receive cells the three
    from the other devices. -/
abbrev tokOf (x : Dev nD × Fin 3 × Fin 3) : GSem nD τ sig × ℕ × Fin 3 := match x.2.1 with
  | 0 => (barCell x.1, 0, x.2.2) | 1 => (sendCell x.1 x.2.2, 0, 0) | 2 => (recvCell x.1 (bwd x.2.2 x.1), 0, 0)
/-- The same, keeping only the semaphore's number and the duty. -/
abbrev tokNum (c : Dev nD) (x : Fin 3 × Fin 3) : SemLoc sig × Fin 3 := match x.1 with
  | 0 => (.reg barS, x.2) | 1 => (.dma (sendS x.2), 0) | 2 => (.dma (recvS (bwd x.2 c)), 0)
theorem tokNum_injective (c : Dev nD) : Function.Injective (tokNum c) := by revert c; decide +kernel
theorem tokOf_num (c : Dev nD) (x : Fin 3 × Fin 3) : ((tokOf (c, x)).1.1.1, (tokOf (c, x)).1.2, (tokOf (c, x)).2.2) = (c, tokNum c x) := by
  obtain ⟨t, k⟩ := x; fin_cases t <;> rfl
theorem tokOf_injective : Function.Injective (tokOf : Dev nD × Fin 3 × Fin 3 → GSem nD τ sig × ℕ × Fin 3) := by
  rintro ⟨c, x⟩ ⟨c', x'⟩ h
  have h' : (c, tokNum c x) = (c', tokNum c' x') := by rw [← tokOf_num, ← tokOf_num, h]
  have h1 : c = c' := congrArg Prod.fst h'
  subst h1
  rw [tokNum_injective c (congrArg Prod.snd h')]
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

def toks (c : Dev nD) : sProp 𝕄 :=
  iprop((dutyTok ER (barCell c) 0 0 ∗ dutyTok ER (barCell c) 0 1 ∗ dutyTok ER (barCell c) 0 2)
    ∗ (dutyTok ER (sendCell c 0) 0 0 ∗ dutyTok ER (sendCell c 1) 0 0 ∗ dutyTok ER (sendCell c 2) 0 0)
    ∗ (dutyTok ER (recvCell c (bwd 0 c)) 0 0 ∗ dutyTok ER (recvCell c (bwd 1 c)) 0 0 ∗ dutyTok ER (recvCell c (bwd 2 c)) 0 0))

/-- What the launch deals device `c`. -/
def G (c : Dev nD) : sProp 𝕄 :=
  iprop((bigSep Finset.univ fun k : Fin 8 => roundState ER (Rd m ρ) (kcell (c, k)) 0)
    ∗ (bigSep Finset.univ fun k : Fin 8 => iprop(atPos ER (kcell (c, k)) 0 ∅ 0 ∗ reached ER (kcell (c, k)) 0)) ∗ toks c)

/-- What the devices make of it together. -/
def G' (c : Dev nD) : sProp 𝕄 := iprop(∃ K, ghost m ρ K c)

theorem over3 (Φ : Fin 3 → sProp 𝕄) : bigSep Finset.univ Φ = iprop(Φ 0 ∗ Φ 1 ∗ Φ 2) := bigSep_univ_eq_bigSepL [0, 1, 2] (by decide) (by decide) Φ

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 8 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    rw [bigSep_univ_prod, over3, over3, over3, over3]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0
        ∗ semVal (kcell (c, 6)) 0 ∗ semVal (kcell (c, 7)) 0) := by
  rw [Pipeline.ownSems0_eq_of_list c osem [0, 1, 2, 3, 4, 5, 6] (by decide) (by decide)]; rfl
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

/-- The launch's semaphores at zero are the eight cells at zero. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : Fin 8 => semVal (kcell (c, k)) 0 : sProp 𝕄) := by
  rw [ownSems0_eq, unscopedSems0_eq, over_cells]

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : Fin 8 => semVal (kcell (c, k)) 0) ∗ bigSep Finset.univ fun k : Fin 8 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c` alone: its positions, and the tokens of the duties it pays. -/
def held (c : Dev nD) : sProp 𝕄 := iprop((bigSep Finset.univ fun j : Fin 8 => atPos ER (kcell (c, j)) 0 ∅ 0) ∗ payToks c)

theorem ghost_intro (K : Dev nD × Fin 8 → ℕ) (c : Dev nD) : iprop(records m ρ K ∗ held c) ⊢ G' m ρ c := by
  unfold held G' ghost
  iintro ⟨HR, H⟩
  iexists K
  isplitl [HR] <;> iassumption

/-- The records, known to all, with what each device holds alone. -/
theorem deal_ghost (K : Dev nD × Fin 8 → ℕ) : iprop(records m ρ K ∗ bigSep Finset.univ fun c : Dev nD => held c) ⊢ bigSep Finset.univ (G' m ρ) := by
  refine (sep_mono_left (BI.bigSep_of_persistent (Finset.univ : Finset (Dev nD)) (records m ρ K))).trans ?_
  rw [← bigSep_sep']
  exact bigSep_mono fun c _ => ghost_intro m ρ K c

theorem bar_around (k e : Fin 3) :
    (bigSep Finset.univ fun c : Dev nD => (dutyTok ER (barCell c) 0 e : sProp 𝕄)) = bigSep Finset.univ fun c : Dev nD => dutyTok ER (barCell (fwd k c)) 0 e :=
  bigSep_univ_equiv (rot k) fun c : Dev nD => (dutyTok ER (barCell c) 0 e : sProp 𝕄)
theorem recv_around (k : Fin 3) :
    (bigSep Finset.univ fun c : Dev nD => (dutyTok ER (recvCell c (bwd k c)) 0 0 : sProp 𝕄))
      = bigSep Finset.univ fun c : Dev nD => dutyTok ER (recvCell (fwd k c) c) 0 0 := by
  rw [bigSep_univ_equiv (rot k)]
  refine bigSep_congr fun c _ => ?_
  show dutyTok ER (recvCell (fwd k c) (bwd k (fwd k c))) 0 0 = _
  rw [bwd_fwd]

/-- The tokens as minted, dealt to the devices that pay. -/
theorem toks_around : (bigSep Finset.univ fun c : Dev nD => (toks c : sProp 𝕄)) = bigSep Finset.univ fun c : Dev nD => payToks c := by
  unfold toks payToks
  simp only [bigSep_sep']
  rw [bar_around 0 0, bar_around 1 1, bar_around 2 2, recv_around 0, recv_around 1, recv_around 2]

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 8 => iprop(∃ κ : ℕ, cellInv ER (Rd m ρ) κ (kcell ck))),
    bigSep_congr (s := Finset.univ) (fun (c : Dev nD) _ => bigSep_sep' Finset.univ (fun k : Fin 8 => (atPos ER (kcell (c, k)) 0 ∅ 0 : sProp 𝕄)) (fun k => reached ER (kcell (c, k)) 0)),
    bigSep_sep', ← bigSep_univ_prod (fun ck : Dev nD × Fin 8 => (reached ER (kcell ck) 0 : sProp 𝕄)), toks_around]
  iintro ⟨HI, ⟨Hat, HR⟩, Htk⟩
  ihave HK := (BI.bigSep_exists_pi Finset.univ (fun (ck : Dev nD × Fin 8) (κ : ℕ) => (cellInv ER (Rd m ρ) κ (kcell ck) : sProp 𝕄))) $$ HI
  icases HK with ⟨%K, HI⟩
  iapply (deal_ghost m ρ K)
  isplitl [HI HR]
  · unfold records; isplitl [HI] <;> iassumption
  · unfold held; rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_eq_iff {a b : Dev nD} : barCell a = barCell b ↔ a = b :=
  ⟨fun h => congrArg (fun g : GSem nD τ sig => g.1.1) h, fun h => h ▸ rfl⟩
theorem recvS_injective : Function.Injective recvS := by decide
theorem recv_eq_iff {a b d e : Dev nD} : recvCell a d = recvCell b e ↔ a = b ∧ d = e :=
  ⟨fun h => ⟨congrArg (fun g : GSem nD τ sig => g.1.1) h, recvS_injective (SemLoc.dma.inj (congrArg Prod.snd h))⟩, fun h => by rw [h.1, h.2]⟩
theorem bar_ne_recv (a b d : Dev nD) : barCell a ≠ recvCell b d := fun h => by cases congrArg Prod.snd h

theorem owed_sum (d : Dev nD) (g : GSem nD τ sig) : O₀ d g () =
    (if g = recvCell (fwd 2 d) d then N else 0) + (if g = recvCell (fwd 1 d) d then N else 0) + (if g = recvCell (fwd 0 d) d then N else 0)
      + (if g = barCell (fwd 2 d) then 1 else 0) + (if g = barCell (fwd 1 d) then 1 else 0) + (if g = barCell (fwd 0 d) then 1 else 0) := by
  unfold O₀ oBar1 oBar2 oSend0 oSend1 oSend2
  simp only [Pi.add_apply, Finsupp.add_apply, tallyAt_apply, and_true]

/-- What device `d` owes device `c`'s barrier cell: a unit for each of its three signals that goes to `c`. -/
theorem owed_bar (d c : Dev nD) : O₀ d (barCell c) () = (if c = fwd 2 d then 1 else 0) + (if c = fwd 1 d then 1 else 0) + (if c = fwd 0 d then 1 else 0) := by
  rw [owed_sum]
  simp only [if_neg (bar_ne_recv _ _ _), bar_eq_iff, Nat.zero_add]
/-- What device `d` owes device `c`'s receive cell from `e`. -/
theorem owed_recv (d c e : Dev nD) (h : e ≠ c) : O₀ d (recvCell c e) () = if d = e then N else 0 := by
  rw [owed_sum]
  simp only [recv_eq_iff, if_neg (fun h' => (bar_ne_recv _ _ _) (Eq.symm h')), Nat.add_zero]
  generalize N = n
  by_cases hd : d = e
  · subst hd
    revert h; fin_cases c <;> fin_cases d <;> simp [fwd]
  · simp [hd, Ne.symm hd]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel

theorem launch_recv (c e : Dev nD) (h : e ≠ c) :
    tallyOn (recvCell c e) (launchCredit (Pipeline.owing O₀) 0 (recvCell c e)) = (tallyAt (recvCell c e) () N : CellTallies nD τ sig Unit) := by
  unfold tallyAt; refine congrArg _ (Finsupp.ext fun u => ?_); cases u
  rw [Pipeline.launchCredit_owing, Finsupp.single_eq_same, Finset.sum_congr rfl fun d _ => owed_recv d c e h, Finset.sum_ite_eq' Finset.univ e fun _ => N,
    if_pos (Finset.mem_univ _)]

theorem cred_list_nodup (c : Dev nD) :
    [(SemLoc.reg barS : SemLoc sig), .dma (recvS (fwd 0 c)), .dma (recvS (fwd 1 c)), .dma (recvS (fwd 2 c))].Nodup := by revert c; decide

theorem creds (c : Dev nD) : (Pipeline.launchCred O₀ c : sProp 𝕄) ⊢ credits c := by
  have h : (bigSep [(SemLoc.reg barS : SemLoc sig), .dma (recvS (fwd 0 c)), .dma (recvS (fwd 1 c)), .dma (recvS (fwd 2 c))].toFinset
      fun sm => (cred (tallyOn ((c : Thread nD τ), sm) (launchCredit (Pipeline.owing O₀) 0 ((c : Thread nD τ), sm))) : sProp 𝕄)) = credits c := by
    rw [bigSep_eq_bigSepL_of_eq _ rfl (cred_list_nodup c), bigSepL_cons_cons, bigSepL_cons_cons, bigSepL_cons_cons, bigSepL_singleton,
      launch_bar, launch_recv c _ (fwd_ne 0 c), launch_recv c _ (fwd_ne 1 c), launch_recv c _ (fwd_ne 2 c)]
    rfl
  rw [← h]
  unfold Pipeline.launchCred
  exact bigSep_subset (Finset.subset_univ _)

/-! ## The launch theorem's side conditions -/

/-- The array the kernel does not take, as it was. -/
def asideAt (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ asideAt m c) := by
  rw [Pipeline.unscopedRestP_none, unscopedRest0_eq]
  iintro ⟨Ha, Hlev, Hcr, -, HG⟩
  ihave Hc := (creds (F := F) c) $$ Hcr
  imodintro
  unfold start G' asideAt
  isplitr [Ha]
  · isplitl [HG]; · iexact HG
    isplitl [Hc] <;> iassumption
  · iexact Ha

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ gWhole
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ gWhole
  rw [← sems0_eq]
  iintro ⟨Hr, Hb, Hs⟩
  isplitl [Hb]; · iexact Hb
  isplitl [Hs] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def EndsAt (r : PUnit × MemSt nD τ sig (Elt F)) : Prop :=
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 8000 in
/-- From any memory with zero counters every weakly fair execution of the four devices terminates, each array ends at
    its computed contents, the array the kernel does not take is unchanged, and every counter is zero. -/
theorem run_arrays : θ_run defs (onTc (τ := τ) (main (F := F))) (s₀ m ρ) (fun r => EndsAt m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := asideAt m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold asideAt
      iintro ⟨Hu, Ha, HSI⟩
      ihave %h := (SI_pointsTo_agree) $$ [HSI Ha]
      · isplitl [HSI] <;> iassumption
      imod (Pipeline.unscopedSems0_read (X := unscopedSems0 c) (c := c) fupd_intro s') $$ [Hu HSI] with ⟨%h2, HSI⟩
      · isplitl [Hu] <;> iassumption
      imodintro
      isplitr; · ipureintro; exact ⟨h2, funext fun i => h i (Finset.mem_univ i)⟩
      iexact HSI)
    (hQ := fun _ h hs => ⟨fun c => ⟨(h c).1, (h c).2.2.2⟩, sem_eq_zero hs fun c => (h c).2.2.1⟩)

theorem final_x (c : Dev nD) : finalA m ρ c (0 : Fin 4) = m ((c : Thread nD τ).loc main_arg0) := (dats (F := F) m ρ 0 c).arrAt_in (0 : Fin 4) rfl _
theorem final_t (c : Dev nD) : finalA m ρ c (1 : Fin 4) = m ((c : Thread nD τ).loc main_arg2) := (dats (F := F) m ρ 0 c).arrAt_in (1 : Fin 4) rfl _
theorem final_w (c : Dev nD) : finalA m ρ c (2 : Fin 4) = m ((c : Thread nD τ).loc main_arg3) := (dats (F := F) m ρ 0 c).arrAt_in (2 : Fin 4) rfl _

/-- Reading a window's one block, which is its whole array, reads the array. -/
theorem xst_eq (c : Dev nD) : xst m ρ c = m ((c : Thread nD τ).loc main_arg0) := by
  unfold xst s₀
  exact Memref.read_access_unit_zero (Elt F) main_arg0 (funext fun a => by fin_cases a <;> decide) (fun a => by fin_cases a <;> decide) _
theorem tst_eq (c : Dev nD) : tst m ρ c = m ((c : Thread nD τ).loc main_arg2) := by
  unfold tst s₀
  exact Memref.read_access_unit_zero (Elt F) main_arg2 (funext fun a => by fin_cases a <;> decide) (fun a => by fin_cases a <;> decide) _
theorem wst_eq (c : Dev nD) : wst m ρ c = m ((c : Thread nD τ).loc main_arg3) := by
  unfold wst s₀
  exact Memref.read_access_unit_zero (Elt F) main_arg3 (funext fun a => by fin_cases a <;> decide) (fun a => by fin_cases a <;> decide) _

/-- The result array ends at the body's value. -/
theorem final_o (c : Dev nD) : finalA m ρ c (3 : Fin 4) = outAt m ρ c := by
  have h : (win0_3.blk (0 : Fin 1)).view.read (Elt F) (finalA m ρ c (3 : Fin 4)) = outAt m ρ c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  exact ((Memref.read_access_unit_zero (Elt F) main_v1 (funext fun a => by fin_cases a <;> decide) (fun a => by fin_cases a <;> decide) _).symm).trans h

/-- The run of the program: the result is the body's value on every device, the four arguments are unchanged, and every
    counter is zero. -/
theorem run_main : θ_run defs (onTc (τ := τ) (main (F := F))) ⟨m, fun _ => 0, ρ⟩ (fun r => (∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 (3 : Fin 4)).trans (final_o m ρ c), ((h.1 c).1 (0 : Fin 4)).trans (final_x m ρ c), (h.1 c).2,
      ((h.1 c).1 (1 : Fin 4)).trans (final_t m ρ c), ((h.1 c).1 (2 : Fin 4)).trans (final_w m ρ c)⟩, h.2⟩) (run_arrays m ρ)

end Cert.KernelIdeal.Moe
-- ==== Proof.Frames.lean ====
module

public import proofs.«01_k».proof.Defs
public import proofs.«01_k».proof.Proof.Gen.ReferenceIdeal.Run
public import proofs.«01_k».proof.Proof.IdealLaunch
public import proofs.«01_k».proof.Proof.BitsLaunch
public import Idealize.ShloMosaic.Adequacy
public import Idealize.ShloMosaic.Lib.Quiescent

@[expose] public section

noncomputable section

/-! # The three programs run, leave their arguments as they were and their counters at zero -/

namespace Cert.Proof

open Idealize.ShloMosaic Idealize.SL.Sem

/-- The kernel as written. -/
theorem frame_kernel : Cert.quiescent_Kernel := by
  intro m ρ _
  exact (θ_run _ _ _).mono (fun _ h => ⟨fun c => (h.1 c).2, h.2⟩) (Cert.Kernel.Moe.run_main (F := Bits) m ρ)

/-- The kernel over the ideal numbers. -/
theorem frame_ideal : Cert.quiescent_KernelIdeal := by
  intro m ρ _
  exact (θ_run _ _ _).mono (fun _ h => ⟨fun c => (h.1 c).2, h.2⟩) (Cert.KernelIdeal.Moe.run_main (F := Ideal) m ρ)

/-- The reference over the ideal numbers; it declares no semaphore. -/
theorem frame_reference : Cert.quiescent_ReferenceIdeal := by
  intro m ρ _
  exact (θ_run _ _ _).mono (fun r h => ⟨fun c => (h c).2, sem_eq_zero_of_no_sems (by decide) r.2⟩)
    (Cert.ReferenceIdeal.Value.run (F := Ideal) m ρ)

end Cert.Proof

end
-- ==== Proof.Spec.lean ====
module

public import Idealize.ShloMosaic.PureOps.Ideal.Laws
public import Idealize.ShloMosaic.Lib.ValueIdx

@[expose] public section

noncomputable section

/-! # What the mixture of experts computes, in plain mathematics

Each token names an expert. The first 25 tokens that name an expert are kept, and a kept token's row is its input row
times that expert's matrix. The kernel moves a kept token through a slot of the shared buffer: the slot's number is
thirty-two times the expert plus the token's place among those of that expert. -/

namespace Cert.Moe

open Idealize.ShloMosaic Idealize.ShloMosaic.ValueIdx
open scoped BigOperators

/-- The array of expert numbers, one per token. -/
abbrev Routes : Type := (⟨2, ![256, 1]⟩ : Shape).Idx → BitVec 32

/-- The expert that token `i` names. -/
def expert (t : Routes) (i : Fin 256) : BitVec 32 := t (ix2 i (0 : Fin 1))

/-- Every token names one of the eight experts. -/
def Valid (t : Routes) : Prop := ∀ i, (expert t i).toNat < 8

/-- How many tokens up to and including `i` name its expert. -/
def cnt (t : Routes) (i : Fin 256) : ℕ := (Finset.univ.filter fun k : Fin 256 => k ≤ i ∧ expert t k = expert t i).card

/-- How many tokens before `i` name its expert. -/
def earlier (t : Routes) (i : Fin 256) : ℕ := (Finset.univ.filter fun k : Fin 256 => expert t k = expert t i ∧ k < i).card

/-- The slot of the shared buffer that token `i` goes through. -/
def slot (t : Routes) (i : Fin 256) : ℕ := 32 * (expert t i).toNat + cnt t i - 1

/-- One where token `i` is kept and goes through slot `s`, else zero. -/
def sel (t : Routes) (i : Fin 256) (s : ℕ) : EReal := if cnt t i ≤ 25 ∧ slot t i = s then 1 else 0

/-- Token `i`'s row at column `h`. -/
def value (t : Routes) (x : (⟨2, ![256, 128]⟩ : Shape).Idx → EReal) (W : (⟨3, ![8, 128, 256]⟩ : Shape).Idx → EReal)
    (i h : Fin 256) : EReal :=
  if cnt t i ≤ 25 then
    ∑ k : Fin 128, x (ix2 i k) * W (ix3 (⟨(expert t i).toNat % 8, Nat.mod_lt _ (by decide)⟩ : Fin 8) k h)
  else 0

/-- Row `s` of the shared buffer at column `h`: the sum of the rows sent to the slot, times the slot's expert. -/
def shared (t : Routes) (x : (⟨2, ![256, 128]⟩ : Shape).Idx → EReal) (W : (⟨3, ![8, 128, 256]⟩ : Shape).Idx → EReal)
    (s : ℕ) (h : Fin 256) : EReal :=
  ∑ k : Fin 128, (∑ i : Fin 256, sel t i s * x (ix2 i k))
    * W (ix3 (⟨s / 32 % 8, Nat.mod_lt _ (by decide)⟩ : Fin 8) k h)

theorem cnt_eq (t : Routes) (i : Fin 256) : cnt t i = earlier t i + 1 := by
  classical
  unfold cnt earlier
  have h : (Finset.univ.filter fun k : Fin 256 => k ≤ i ∧ expert t k = expert t i)
      = insert i (Finset.univ.filter fun k : Fin 256 => expert t k = expert t i ∧ k < i) := by
    ext k
    simp only [Finset.mem_filter, Finset.mem_univ, true_and, Finset.mem_insert]
    constructor
    · rintro ⟨h1, h2⟩
      rcases eq_or_lt_of_le h1 with h | h
      · exact Or.inl h
      · exact Or.inr ⟨h2, h⟩
    · rintro (h | ⟨h1, h2⟩)
      · subst h; exact ⟨le_refl _, rfl⟩
      · exact ⟨h2.le, h1⟩
  rw [h, Finset.card_insert_of_notMem]
  simp

theorem cnt_pos (t : Routes) (i : Fin 256) : 0 < cnt t i := by rw [cnt_eq]; omega

theorem cnt_le (t : Routes) (i : Fin 256) : cnt t i ≤ 256 := by
  unfold cnt
  exact (Finset.card_le_univ _).trans (by simp)

theorem cnt_lt (t : Routes) {i j : Fin 256} (he : expert t i = expert t j) (hij : i < j) : cnt t i < cnt t j := by
  unfold cnt
  refine Finset.card_lt_card (Finset.ssubset_iff_of_subset ?_ |>.2 ⟨j, ?_, ?_⟩)
  · intro k hk
    simp only [Finset.mem_filter, Finset.mem_univ, true_and] at hk ⊢
    exact ⟨hk.1.trans hij.le, hk.2.trans he⟩
  · simp
  · simp only [Finset.mem_filter, Finset.mem_univ, true_and, not_and]
    exact fun h => absurd hij (not_lt.2 h)

theorem slot_lt (t : Routes) (hv : Valid t) {i : Fin 256} (hc : cnt t i ≤ 25) : slot t i < 256 := by
  have := hv i
  unfold slot
  omega

theorem slot_div (t : Routes) {i : Fin 256} (hc : cnt t i ≤ 25) : slot t i / 32 = (expert t i).toNat := by
  have := cnt_pos t i
  unfold slot
  omega

/-- Two kept tokens do not share a slot. -/
theorem slot_inj (t : Routes) {i j : Fin 256} (hi : cnt t i ≤ 25) (hj : cnt t j ≤ 25) (h : slot t i = slot t j) : i = j := by
  have h1 := slot_div t hi
  have h2 := slot_div t hj
  have he : expert t i = expert t j := BitVec.eq_of_toNat_eq (by rw [← h1, ← h2, h])
  have p1 := cnt_pos t i
  have p2 := cnt_pos t j
  have hc : cnt t i = cnt t j := by
    unfold slot at h
    rw [he] at h
    omega
  rcases lt_trichotomy i j with hl | hl | hl
  · have := cnt_lt t he hl; omega
  · exact hl
  · have := cnt_lt t he.symm hl; omega

/-- At a kept token's slot the shared buffer holds the token's row. -/
theorem shared_slot (t : Routes) (x : (⟨2, ![256, 128]⟩ : Shape).Idx → EReal) (W : (⟨3, ![8, 128, 256]⟩ : Shape).Idx → EReal)
    {i : Fin 256} (hc : cnt t i ≤ 25) (h : Fin 256) : shared t x W (slot t i) h = value t x W i h := by
  unfold shared value
  rw [if_pos hc]
  refine Finset.sum_congr rfl fun k _ => ?_
  have hs : (∑ j : Fin 256, sel t j (slot t i) * x (ix2 j k)) = x (ix2 i k) := by
    rw [Finset.sum_eq_single i]
    · unfold sel
      rw [if_pos ⟨hc, rfl⟩, one_mul]
    · intro j _ hj
      unfold sel
      rw [if_neg fun hh => hj (slot_inj t hh.1 hc hh.2), zero_mul]
    · exact fun hn => absurd (Finset.mem_univ _) hn
  rw [hs]
  congr 2
  simp only [slot_div t hc]

/-- What band `d` of the shared buffer gives to a token's row. -/
theorem sum_band (t : Routes) (i : Fin 256) (G : ℕ → EReal) (d : ℕ) :
    ∑ l : Fin 64, sel t i (64 * d + l.val) * G (64 * d + l.val)
      = if cnt t i ≤ 25 ∧ slot t i / 64 = d then G (slot t i) else 0 := by
  by_cases hh : cnt t i ≤ 25 ∧ slot t i / 64 = d
  · rw [if_pos hh, Finset.sum_eq_single (⟨slot t i % 64, Nat.mod_lt _ (by decide)⟩ : Fin 64)]
    · have e : 64 * d + slot t i % 64 = slot t i := by have := hh.2; omega
      simp only [e]
      unfold sel
      rw [if_pos ⟨hh.1, rfl⟩, one_mul]
    · intro l _ hl
      unfold sel
      rw [if_neg, zero_mul]
      rintro ⟨_, h2⟩
      exact hl (Fin.ext (by show l.val = slot t i % 64; have := l.isLt; omega))
    · exact fun hn => absurd (Finset.mem_univ _) hn
  · rw [if_neg hh]
    refine Finset.sum_eq_zero fun l _ => ?_
    unfold sel
    rw [if_neg, zero_mul]
    rintro ⟨h1, h2⟩
    exact hh ⟨h1, by have := l.isLt; omega⟩

/-- The four bands together give a token its row. -/
theorem sum_bands (t : Routes) (hv : Valid t) (x : (⟨2, ![256, 128]⟩ : Shape).Idx → EReal)
    (W : (⟨3, ![8, 128, 256]⟩ : Shape).Idx → EReal) (i h : Fin 256) :
    (((0 + ∑ l : Fin 64, sel t i (64 * 0 + l.val) * shared t x W (64 * 0 + l.val) h)
      + ∑ l : Fin 64, sel t i (64 * 1 + l.val) * shared t x W (64 * 1 + l.val) h)
      + ∑ l : Fin 64, sel t i (64 * 2 + l.val) * shared t x W (64 * 2 + l.val) h)
      + ∑ l : Fin 64, sel t i (64 * 3 + l.val) * shared t x W (64 * 3 + l.val) h = value t x W i h := by
  have e := fun d => sum_band t i (fun s => shared t x W s h) d
  rw [e 0, e 1, e 2, e 3]
  by_cases hc : cnt t i ≤ 25
  · rw [shared_slot t x W hc h]
    have hlt := slot_lt t hv hc
    have h4 : slot t i / 64 = 0 ∨ slot t i / 64 = 1 ∨ slot t i / 64 = 2 ∨ slot t i / 64 = 3 := by omega
    rcases h4 with h4 | h4 | h4 | h4 <;> simp [hc, h4]
  · simp [hc, value]

/-! ## Bits and counts as numbers -/

/-- A bit widened and read as a number is one or zero. -/
theorem bit_number (b : BitVec 1) : ((((b.setWidth 32).toInt : ℤ) : ℝ) : EReal) = if b = 1#1 then 1 else 0 := by
  rcases (show b = 0#1 ∨ b = 1#1 by revert b; decide) with rfl | rfl
  · simp
  · simp

/-- A small count turned into a word. -/
theorem count_word {n : ℕ} (hn : n ≤ 256) : Ideal.fptosi 32 ((n : ℕ) : EReal) = BitVec.ofNat 32 n := by
  have e : ((n : ℕ) : EReal) = (((n : ℝ)) : EReal) := by simp
  unfold Ideal.fptosi
  rw [e, Ideal.toIntClamped_coe, if_pos (by positivity)]
  have hf : ⌊(n : ℝ)⌋ = (n : ℤ) := by simp
  rw [hf, min_eq_right (by norm_num; omega), max_eq_right (by norm_num)]
  simp

/-- A sum of ones and zeros is a count. -/
theorem sum_indicator (p : Fin 256 → Prop) [DecidablePred p] :
    (∑ k : Fin 256, if p k then (1 : EReal) else 0) = (((Finset.univ.filter p).card : ℕ) : EReal) := by
  rw [Finset.sum_boole]

end Cert.Moe

end
-- ==== Proof.KerValue.lean ====
module

public import proofs.«01_k».proof.Proof.IdealLaunch
public import proofs.«01_k».proof.Proof.Spec
public import Idealize.ShloMosaic.Lib.Pipeline.Value
public import Idealize.ShloMosaic.Lib.MatmulPlain
public import Idealize.ShloMosaic.Lib.StableHlo.Predicate
public import Idealize.ShloMosaic.Lib.Layout

@[expose] public section

noncomputable section

/-! # The kernel's value is the specification's

Every stored value of the kernel read at an index over the extended reals: the running count of a token's expert, the
token's slot, the rows a device sends through its slots, the shared buffer, and the four bands added up. -/

namespace Cert.KernelIdeal.Moe

open Cert.KernelIdeal Cert.KernelIdeal.Gen
open Idealize.ShloMosaic Idealize.ShloMosaic.ValueIdx Cert.Moe
open Idealize.ShloMosaic.TcCoe
open Idealize.ShloMosaic.StableHlo
open scoped BigOperators

/-! ## Layout operations at an index -/

/-- A column spread over a rectangle reads its own row. -/
theorem spread_col {α : Type} {n m : ℕ} (v : (⟨2, ![n, 1]⟩ : Shape).Idx → α)
    (h : (⟨2, ![n, 1]⟩ : Shape).Broadcasts ⟨2, ![n, m]⟩) (hn : n ≠ 1) (i : Fin n) (l : Fin m) :
    broadcastTo ⟨2, ![n, m]⟩ v h (ix2 i l) = v (ix2 i (0 : Fin 1)) :=
  broadcastTo_apply v h _ _ fun a => match a with
    | ⟨0, _⟩ => by show i.val = if n = 1 then 0 else i.val; rw [if_neg hn]
    | ⟨1, _⟩ => by show 0 = if (1 : ℕ) = 1 then 0 else l.val; rw [if_pos rfl]

/-- A row spread over a rectangle reads its own column. -/
theorem spread_row {α : Type} {n m : ℕ} (v : (⟨2, ![1, m]⟩ : Shape).Idx → α)
    (h : (⟨2, ![1, m]⟩ : Shape).Broadcasts ⟨2, ![n, m]⟩) (hm : m ≠ 1) (i : Fin n) (l : Fin m) :
    broadcastTo ⟨2, ![n, m]⟩ v h (ix2 i l) = v (ix2 (0 : Fin 1) l) :=
  broadcastTo_apply v h _ _ fun a => match a with
    | ⟨0, _⟩ => by show 0 = if (1 : ℕ) = 1 then 0 else i.val; rw [if_pos rfl]
    | ⟨1, _⟩ => by show l.val = if m = 1 then 0 else l.val; rw [if_neg hm]

/-- The bits of a predicate, widened to numbers. -/
def num {s : Shape} (b : IVec s 1) : FVec Ideal s .bf16 := truncf .bf16 (sitofp .f32 (extui 32 b natLt_1_32)) bitsLt_bf16_f32

theorem num_at {s : Shape} (b : IVec s 1) (i : s.Idx) : num b i = if b i = 1#1 then 1 else 0 := bit_number (b i)

theorem and_iff (a b : BitVec 1) : IntOp.andi a b = 1#1 ↔ (a = 1#1 ∧ b = 1#1) := by revert a b; decide

variable (t : Vec Ideal S256x1 .i32) (x : Vec Ideal S256x128 .bf16) (w : Vec Ideal S2x128x256 .bf16)

theorem pay2_eq : k0_pay2 (F := Ideal) t = t := shapeCast_self t _

/-! ## The running count -/

/-- The bit of row `i`, column `e`: token `i` names expert `e`. -/
def hot : IVec S256x8 1 :=
  cmpi .eq (broadcastTo S256x8 (k0_pay2 (F := Ideal) t) broadcasts_S256x1_S256x8)
    (broadcastTo S256x8 (iota .tc S1x8 32 [1] iota_S1x8_d1_w32) broadcasts_S1x8_S256x8)
/-- The bit of row `i`, column `k`: `k` is at most `i`. -/
def tri : IVec S256x256 1 :=
  cmpi .sge (iota .tc S256x256 32 [0] iota_S256x256_d0_w32) (iota .tc S256x256 32 [1] iota_S256x256_d1_w32)

theorem hot_at (i : Fin 256) (e : Fin 8) : hot t (ix2 i e) = 1#1 ↔ expert t i = BitVec.ofNat 32 e.val := by
  unfold hot
  rw [pay2_eq]
  show IntOp.cmpi .eq (broadcastTo S256x8 t broadcasts_S256x1_S256x8 (ix2 i e))
    (broadcastTo S256x8 (iota .tc S1x8 32 [1] iota_S1x8_d1_w32) broadcasts_S1x8_S256x8 (ix2 i e)) = 1#1 ↔ _
  rw [spread_col t _ (by decide) i e, spread_row _ _ (by decide) i e, iota_single_apply]
  exact Predicate.cmpi_eq_iff

theorem tri_at (i k : Fin 256) : tri (ix2 i k) = 1#1 ↔ k ≤ i := by
  unfold tri
  show IntOp.cmpi .sge (iota .tc S256x256 32 [0] iota_S256x256_d0_w32 (ix2 i k))
    (iota .tc S256x256 32 [1] iota_S256x256_d1_w32 (ix2 i k)) = 1#1 ↔ _
  rw [iota_single_apply, iota_single_apply]
  exact Predicate.sle_ofNat_iff k.val i.val (by omega) (by omega)

theorem pay3_eq : k0_pay3 (F := Ideal) t
    = shapeCast S256x1 (multiReduction .add [1] S256 (mulf (extf .f32 (num (hot t)) bitsLt_bf16_f32)
        (matmul dot_S256x256_S256x8_S256x8_1_0_0_1_n_n none (num tri) (num (hot t)) (constant S256x8 .f32 0x00000000#32)))
        0x00000000#32 reduces_S256x8_S256 (.inl rfl) rfl) shapeCasts_S256_S256x1 := rfl

/-- The matrix product under the count: how many tokens up to `i` name expert `e`. -/
theorem count_mm (i : Fin 256) (e : Fin 8) :
    (matmul dot_S256x256_S256x8_S256x8_1_0_0_1_n_n none (num tri) (num (hot t)) (constant S256x8 .f32 0x00000000#32)
        : FVec Ideal S256x8 .f32) (ix2 i e)
      = ∑ k : Fin 256, if k ≤ i ∧ expert t k = BitVec.ofNat 32 e.val then (1 : EReal) else 0 := by
  have hd : dot_S256x256_S256x8_S256x8_1_0_0_1_n_n = DotDims.plain 256 256 8 := rfl
  simp only [matmul]
  rw [hd, Ideal.matmul_plain_apply, constant_apply, Ideal.ofBits_zero_f32, zero_add]
  refine Finset.sum_congr rfl fun k _ => ?_
  rw [num_at, num_at, if_congr (tri_at i k) rfl rfl, if_congr (hot_at t k e) rfl rfl]
  by_cases h1 : k ≤ i <;> by_cases h2 : expert t k = BitVec.ofNat 32 e.val <;> simp [h1, h2]

theorem pay3_at (hv : Valid t) (i : Fin 256) : k0_pay3 (F := Ideal) t (ix2 i (0 : Fin 1)) = ((cnt t i : ℕ) : EReal) := by
  rw [pay3_eq, shapeCast_apply _ _ _ (ix1 i) (by
    rw [Shape.rowMajor_val_two, Shape.rowMajor_val_one]; show i.val = i.val * 1 + 0; omega)]
  refine (Ideal.multiReduction_add_single _ _ _ _ _ _).trans ?_
  have hl : ∀ k : Fin 8, (reduces_S256x8_S256).lift (ix1 i) k = ix2 i k := fun k => by
    funext c; apply Fin.ext
    fin_cases c <;> rfl
  show (∑ k : Fin 8, _) = _
  have hlt := hv i
  have hx : expert t i = BitVec.ofNat 32 (expert t i).toNat := BitVec.eq_of_toNat_eq (by simp)
  rw [Finset.sum_eq_single (⟨(expert t i).toNat, hlt⟩ : Fin 8)]
  · rw [hl, mulf_apply, extf_apply, num_at, if_pos ((hot_at t i _).2 hx), one_mul, count_mm, ← hx, sum_indicator]
    rfl
  · intro e _ he
    rw [hl, mulf_apply, extf_apply, num_at, if_neg, zero_mul]
    intro hh
    refine he (Fin.ext ?_)
    have := (hot_at t i e).1 hh
    have := congrArg BitVec.toNat this
    rw [BitVec.toNat_ofNat] at this
    show e.val = (expert t i).toNat
    omega
  · exact fun hn => absurd (Finset.mem_univ _) hn

theorem ofBits_25 : Ideal.ofBits .f32 0x41C80000#32 = ((25 : ℝ) : EReal) := by
  simp [Ideal.ofBits, Ideal.ieee, -EReal.coe_mul]; norm_num

/-- Whether a token is kept. -/
theorem pay4_at (hv : Valid t) (i : Fin 256) : k0_pay4 (F := Ideal) t (ix2 i (0 : Fin 1)) = 1#1 ↔ cnt t i ≤ 25 := by
  have h : k0_pay4 (F := Ideal) t (ix2 i (0 : Fin 1))
      = Ideal.cmp .ole (k0_pay3 (F := Ideal) t (ix2 i (0 : Fin 1))) (Ideal.ofBits .f32 0x41C80000#32) := rfl
  rw [h, pay3_at t hv, ofBits_25]
  unfold Ideal.cmp
  rw [Predicate.ofBool_eq_one_iff, decide_eq_true_iff]
  have e : ((cnt t i : ℕ) : EReal) = (((cnt t i : ℕ) : ℝ) : EReal) := by simp
  rw [e, EReal.coe_le_coe_iff]
  exact_mod_cast Iff.rfl

/-- A token's slot as a word. -/
theorem pay5_at (hv : Valid t) (i : Fin 256) : k0_pay5 (F := Ideal) t (ix2 i (0 : Fin 1)) = BitVec.ofNat 32 (slot t i) := by
  have h : k0_pay5 (F := Ideal) t (ix2 i (0 : Fin 1))
      = 32#32 * k0_pay2 (F := Ideal) t (ix2 i (0 : Fin 1)) + Ideal.fptosi 32 (k0_pay3 (F := Ideal) t (ix2 i (0 : Fin 1))) - 1#32 := rfl
  rw [h, pay3_at t hv, pay2_eq, count_word (cnt_le t i)]
  have h1 := hv i
  have h2 := cnt_le t i
  have h3 := cnt_pos t i
  unfold slot
  change 32#32 * expert t i + _ - _ = _
  refine BitVec.eq_of_toNat_eq ?_
  simp only [BitVec.toNat_sub, BitVec.toNat_add, BitVec.toNat_mul, BitVec.toNat_ofNat]
  omega

theorem slot_lt' (hv : Valid t) (i : Fin 256) : slot t i < 512 := by
  have h1 := hv i
  have h2 := cnt_le t i
  unfold slot
  omega

theorem word_eq (c : Dev nD) : word c = BitVec.ofNat 32 c.val := by revert c; decide

/-- A token's slot relative to device `c`'s band. -/
theorem pay6_at (hv : Valid t) (c : Dev nD) (i : Fin 256) (l : Fin 64) :
    k0_pay6 (F := Ideal) (word c) t (ix2 i l) = BitVec.ofNat 32 (slot t i) - BitVec.ofNat 32 (64 * c.val) := by
  have h : k0_pay6 (F := Ideal) (word c) t = broadcastTo S256x64 (subi (k0_pay5 (F := Ideal) t)
      (broadcast S256x1 (Scalar.muli 64#32 (word c)))) broadcasts_S256x1_S256x64 := rfl
  rw [h, spread_col _ _ (by decide) i l]
  show k0_pay5 (F := Ideal) t (ix2 i (0 : Fin 1)) - 64#32 * word c = _
  rw [pay5_at t hv, word_eq]
  have hm : ∀ d : Dev nD, 64#32 * BitVec.ofNat 32 d.val = BitVec.ofNat 32 (64 * d.val) := by decide
  rw [hm c]

/-! ## The rows a device sends through its slots -/

/-- The bit of row `i`, column `l`: token `i` is kept and goes through slot `l` of device `c`'s band. -/
def mine (c : Dev nD) : IVec S256x64 1 :=
  andi (cmpi .eq (k0_pay6 (F := Ideal) (word c) t) (iota .tc S256x64 32 [1] iota_S256x64_d1_w32))
    (broadcastTo S256x64 (k0_pay4 (F := Ideal) t) broadcasts_S256x1_S256x64)

theorem mine_at (hv : Valid t) (c : Dev nD) (i : Fin 256) (l : Fin 64) :
    num (mine t c) (ix2 i l) = sel t i (64 * c.val + l.val) := by
  rw [num_at]
  unfold sel
  refine if_congr ?_ rfl rfl
  unfold mine
  show IntOp.andi (IntOp.cmpi .eq (k0_pay6 (F := Ideal) (word c) t (ix2 i l)) (iota .tc S256x64 32 [1] iota_S256x64_d1_w32 (ix2 i l)))
    (broadcastTo S256x64 (k0_pay4 (F := Ideal) t) broadcasts_S256x1_S256x64 (ix2 i l)) = 1#1 ↔ _
  rw [and_iff, spread_col _ _ (by decide) i l, pay4_at t hv, iota_single_apply, pay6_at t hv, and_comm]
  refine and_congr_right fun _ => ?_
  rw [Predicate.cmpi_eq_iff]
  have h1 := slot_lt' t hv i
  have h2 : c.val < 4 := c.isLt
  have h3 := l.isLt
  show _ = BitVec.ofNat 32 l.val ↔ _
  constructor
  · intro h
    have h := congrArg BitVec.toNat h
    simp only [BitVec.toNat_sub, BitVec.toNat_ofNat] at h
    omega
  · intro h
    refine BitVec.eq_of_toNat_eq ?_
    simp only [BitVec.toNat_sub, BitVec.toNat_ofNat]
    omega

theorem pay7_eq (c : Dev nD) : k0_pay7 (F := Ideal) (k0_pay4 (F := Ideal) t) (iota .tc S256x64 32 [1] iota_S256x64_d1_w32)
      (k0_pay6 (F := Ideal) (word c) t) x
    = truncf .bf16 (matmul dot_S256x64_S256x128_S64x128_0_0_1_1_n_n none (num (mine t c))
        (shapeCast S256x128 x shapeCasts_S256x128_S256x128 : FVec Ideal S256x128 .bf16) (constant S64x128 .f32 0x00000000#32)) bitsLt_bf16_f32 := rfl

/-- A product that contracts the first axis of both its operands. -/
theorem mm_first (a : FVec Ideal S256x64 .bf16) (b : FVec Ideal S256x128 .bf16) (l : Fin 64) (k : Fin 128) :
    (matmul dot_S256x64_S256x128_S64x128_0_0_1_1_n_n none a b (constant S64x128 .f32 0x00000000#32) : FVec Ideal S64x128 .f32) (ix2 l k)
      = ∑ i : Fin 256, a (ix2 i l) * b (ix2 i k) := by
  simp only [matmul]
  rw [Ideal.matmul_constant_zero_apply,
    ← Equiv.sum_comp (contrEquiv1 dot_S256x64_S256x128_S64x128_0_0_1_1_n_n 256 rfl rfl).symm]
  refine Finset.sum_congr rfl fun i _ => ?_
  have hk := contrEquiv1_symm_val dot_S256x64_S256x128_S64x128_0_0_1_1_n_n 256 rfl rfl i
  have el : dot_S256x64_S256x128_S64x128_0_0_1_1_n_n.lhsIdx (ix2 l k)
      ((contrEquiv1 dot_S256x64_S256x128_S64x128_0_0_1_1_n_n 256 rfl rfl).symm i) = ix2 i l := funext fun q => Fin.ext (by
    match q with
    | ⟨0, _⟩ => exact (DotDims.lhsIdx_val_of_single dot_S256x64_S256x128_S64x128_0_0_1_1_n_n rfl _ _).trans hk
    | ⟨1, _⟩ => rfl)
  have er : dot_S256x64_S256x128_S64x128_0_0_1_1_n_n.rhsIdx (ix2 l k)
      ((contrEquiv1 dot_S256x64_S256x128_S64x128_0_0_1_1_n_n 256 rfl rfl).symm i) = ix2 i k := funext fun q => Fin.ext (by
    match q with
    | ⟨0, _⟩ => exact (DotDims.rhsIdx_val_of_single dot_S256x64_S256x128_S64x128_0_0_1_1_n_n rfl _ _).trans hk
    | ⟨1, _⟩ => rfl)
  rw [el, er]

theorem pay7_at (hv : Valid t) (c : Dev nD) (l : Fin 64) (k : Fin 128) :
    k0_pay7 (F := Ideal) (k0_pay4 (F := Ideal) t) (iota .tc S256x64 32 [1] iota_S256x64_d1_w32)
      (k0_pay6 (F := Ideal) (word c) t) x (ix2 l k)
    = ∑ i : Fin 256, sel t i (64 * c.val + l.val) * x (ix2 i k) := by
  rw [pay7_eq, truncf_apply, shapeCast_self, mm_first]
  exact Finset.sum_congr rfl fun i _ => by rw [mine_at t hv]

/-- A half band: thirty-two of the sent rows times one matrix. -/
theorem mm_half (a : FVec Ideal S32x128 .bf16) (v : Vec Ideal S1x128x256 .bf16) (r : Fin 32) (h : Fin 256) :
    (shapeCast S32x256 (truncf .bf16 (matmul dot_S32x128_S128x256_S32x256_1_0_0_1_n_n none a
      (shapeCast S128x256 v shapeCasts_S1x128x256_S128x256 : FVec Ideal S128x256 .bf16) (constant S32x256 .f32 0x00000000#32)) bitsLt_bf16_f32 : FVec Ideal S32x256 .bf16)
      shapeCasts_S32x256_S32x256) (ix2 r h)
      = ∑ k : Fin 128, a (ix2 r k) * v (ix3 (0 : Fin 1) k h) := by
  have hd : dot_S32x128_S128x256_S32x256_1_0_0_1_n_n = DotDims.plain 32 128 256 := rfl
  rw [shapeCast_self, truncf_apply]
  simp only [matmul]
  rw [hd, Ideal.matmul_plain_apply, constant_apply, Ideal.ofBits_zero_f32, zero_add]
  refine Finset.sum_congr rfl fun k _ => ?_
  rw [shapeCast_apply v _ (ix2 k h) (ix3 (0 : Fin 1) k h) (by
    rw [Shape.rowMajor_val_three, Shape.rowMajor_val_two]
    show (0 * 128 + k.val) * 256 + h.val = k.val * 256 + h.val
    omega)]

theorem top_at (hv : Valid t) (c : Dev nD) (r : Fin 32) (h : Fin 256) :
    topOf (F := Ideal) c x t w (ix2 r h)
      = ∑ k : Fin 128, (∑ i : Fin 256, sel t i (64 * c.val + r.val) * x (ix2 i k)) * w (ix3 (0 : Fin 2) k h) := by
  refine (mm_half _ _ r h).trans (Finset.sum_congr rfl fun k _ => ?_)
  rw [extractStridedSlice_apply _ _ _ _ (ix2 (⟨r.val, by omega⟩ : Fin 64) k) (fun a => by
    match a with
    | ⟨0, _⟩ => show r.val = 0 + r.val; omega
    | ⟨1, _⟩ => show k.val = 0 + k.val; omega), pay7_at t x hv]
  congr 1
  refine congrArg w (funext fun a => Fin.ext ?_)
  match a with
  | ⟨0, _⟩ => rfl
  | ⟨1, _⟩ => show 0 + 1 * k.val = k.val; omega
  | ⟨2, _⟩ => show 0 + 1 * h.val = h.val; omega

theorem bot_at (hv : Valid t) (c : Dev nD) (r : Fin 32) (h : Fin 256) :
    botOf (F := Ideal) c x t w (ix2 r h)
      = ∑ k : Fin 128, (∑ i : Fin 256, sel t i (64 * c.val + (32 + r.val)) * x (ix2 i k)) * w (ix3 (1 : Fin 2) k h) := by
  refine (mm_half _ _ r h).trans (Finset.sum_congr rfl fun k _ => ?_)
  rw [extractStridedSlice_apply _ _ _ _ (ix2 (⟨32 + r.val, by omega⟩ : Fin 64) k) (fun a => by
    match a with
    | ⟨0, _⟩ => rfl
    | ⟨1, _⟩ => show k.val = 0 + k.val; omega), pay7_at t x hv]
  congr 1
  refine congrArg w (funext fun a => Fin.ext ?_)
  match a with
  | ⟨0, _⟩ => rfl
  | ⟨1, _⟩ => show 0 + 1 * k.val = k.val; omega
  | ⟨2, _⟩ => show 0 + 1 * h.val = h.val; omega

/-! ## The bands added up -/

theorem pay10_at (hv : Valid t) (i s : Fin 256) :
    k0_pay10 (F := Ideal) (k0_pay4 (F := Ideal) t) (k0_pay5 (F := Ideal) t) (ix2 i s) = sel t i s.val := by
  have h : k0_pay10 (F := Ideal) (k0_pay4 (F := Ideal) t) (k0_pay5 (F := Ideal) t)
      = num (andi (cmpi .eq (broadcastTo S256x256 (k0_pay5 (F := Ideal) t) broadcasts_S256x1_S256x256)
          (iota .tc S256x256 32 [1] iota_S256x256_d1_w32))
        (broadcastTo S256x256 (k0_pay4 (F := Ideal) t) broadcasts_S256x1_S256x256)) := rfl
  rw [h, num_at]
  unfold sel
  refine if_congr ?_ rfl rfl
  show IntOp.andi (IntOp.cmpi .eq (broadcastTo S256x256 (k0_pay5 (F := Ideal) t) broadcasts_S256x1_S256x256 (ix2 i s))
      (iota .tc S256x256 32 [1] iota_S256x256_d1_w32 (ix2 i s)))
    (broadcastTo S256x256 (k0_pay4 (F := Ideal) t) broadcasts_S256x1_S256x256 (ix2 i s)) = 1#1 ↔ _
  rw [and_iff, spread_col _ _ (by decide) i s, spread_col _ _ (by decide) i s, pay4_at t hv, iota_single_apply, pay5_at t hv, and_comm]
  refine and_congr_right fun _ => ?_
  rw [Predicate.cmpi_eq_iff]
  have h1 := slot_lt' t hv i
  have h3 := s.isLt
  show _ = BitVec.ofNat 32 s.val ↔ _
  constructor
  · intro h
    have h := congrArg BitVec.toNat h
    simp only [BitVec.toNat_ofNat] at h
    omega
  · intro h
    rw [h]

/-- One band's product. -/
theorem mm_band (a : FVec Ideal S256x64 .bf16) (b : FVec Ideal S64x256 .bf16) (i h : Fin 256) :
    (matmul dot_S256x64_S64x256_S256x256_1_0_0_1_n_n none a b (constant S256x256 .f32 0x00000000#32) : FVec Ideal S256x256 .f32) (ix2 i h)
      = ∑ l : Fin 64, a (ix2 i l) * b (ix2 l h) := by
  have hd : dot_S256x64_S64x256_S256x256_1_0_0_1_n_n = DotDims.plain 256 64 256 := rfl
  simp only [matmul]
  rw [hd, Ideal.matmul_plain_apply, constant_apply, Ideal.ofBits_zero_f32, zero_add]

/-- Sixty-four columns of the selection, from column `o` on. -/
theorem cols_at (hv : Valid t) (o : ℕ) (ho : o + 64 ≤ 256) (hs : S256x256.Slices ![0, o] S256x64) (i : Fin 256) (l : Fin 64) :
    extractStridedSlice S256x64 ![0, o] (k0_pay10 (F := Ideal) (k0_pay4 (F := Ideal) t) (k0_pay5 (F := Ideal) t)) hs (ix2 i l)
      = sel t i (o + l.val) := by
  rw [extractStridedSlice_apply _ _ _ _ (ix2 i (⟨o + l.val, by omega⟩ : Fin 256)) (fun a => by
    match a with
    | ⟨0, _⟩ => show i.val = 0 + i.val; omega
    | ⟨1, _⟩ => rfl), pay10_at t hv]

variable (G : S256x256.Idx → EReal) (g : ℕ → Fin 256 → EReal) (hG : ∀ s h : Fin 256, G (ix2 s h) = g s.val h)
include hG

theorem band0_at (l : Fin 64) (h : Fin 256) : readB (F := Ideal) rB0 G (ix2 l h) = g (64 * 0 + l.val) h := by
  refine Eq.trans (congrArg G ?_) (hG (⟨64 * 0 + l.val, by omega⟩ : Fin 256) h)
  funext a
  refine Fin.ext ?_
  match a with
  | ⟨0, _⟩ => show 0 + 1 * l.val = 64 * 0 + l.val; omega
  | ⟨1, _⟩ => show 0 + 1 * h.val = h.val; omega
theorem band1_at (l : Fin 64) (h : Fin 256) : readB (F := Ideal) rB1 G (ix2 l h) = g (64 * 1 + l.val) h := by
  refine Eq.trans (congrArg G ?_) (hG (⟨64 * 1 + l.val, by omega⟩ : Fin 256) h)
  funext a
  refine Fin.ext ?_
  match a with
  | ⟨0, _⟩ => show 64 + 1 * l.val = 64 * 1 + l.val; omega
  | ⟨1, _⟩ => show 0 + 1 * h.val = h.val; omega
theorem band2_at (l : Fin 64) (h : Fin 256) : readB (F := Ideal) rB2 G (ix2 l h) = g (64 * 2 + l.val) h := by
  refine Eq.trans (congrArg G ?_) (hG (⟨64 * 2 + l.val, by omega⟩ : Fin 256) h)
  funext a
  refine Fin.ext ?_
  match a with
  | ⟨0, _⟩ => show 128 + 1 * l.val = 64 * 2 + l.val; omega
  | ⟨1, _⟩ => show 0 + 1 * h.val = h.val; omega
theorem band3_at (l : Fin 64) (h : Fin 256) : readB (F := Ideal) rB3 G (ix2 l h) = g (64 * 3 + l.val) h := by
  refine Eq.trans (congrArg G ?_) (hG (⟨64 * 3 + l.val, by omega⟩ : Fin 256) h)
  funext a
  refine Fin.ext ?_
  match a with
  | ⟨0, _⟩ => show 192 + 1 * l.val = 64 * 3 + l.val; omega
  | ⟨1, _⟩ => show 0 + 1 * h.val = h.val; omega

theorem acc1_at (hv : Valid t) (i h : Fin 256) :
    acc1 (F := Ideal) t G (ix2 i h) = 0 + ∑ l : Fin 64, sel t i (64 * 0 + l.val) * g (64 * 0 + l.val) h := by
  have e : acc1 (F := Ideal) t G = addf (shapeCast S256x256 (k0_pay11 (F := Ideal)) shapeCasts_S256x256_S256x256)
      (matmul dot_S256x64_S64x256_S256x256_1_0_0_1_n_n none (extractStridedSlice S256x64 ![0, 0]
        (k0_pay10 (F := Ideal) (k0_pay4 (F := Ideal) t) (k0_pay5 (F := Ideal) t)) slices_S256x256_o0_0_S256x64)
        (readB (F := Ideal) rB0 G) (constant S256x256 .f32 0x00000000#32)) := rfl
  rw [e, addf_apply, shapeCast_self, mm_band]
  congr 1
  · exact Ideal.ofBits_zero_f32
  · exact Finset.sum_congr rfl fun l _ => by rw [cols_at t hv 0 (by omega), band0_at G g hG]

theorem acc2_at (hv : Valid t) (i h : Fin 256) :
    acc2 (F := Ideal) t G (ix2 i h) = acc1 (F := Ideal) t G (ix2 i h) + ∑ l : Fin 64, sel t i (64 * 1 + l.val) * g (64 * 1 + l.val) h := by
  have e : acc2 (F := Ideal) t G = addf (shapeCast S256x256 (acc1 (F := Ideal) t G) shapeCasts_S256x256_S256x256)
      (matmul dot_S256x64_S64x256_S256x256_1_0_0_1_n_n none (extractStridedSlice S256x64 ![0, 64]
        (k0_pay10 (F := Ideal) (k0_pay4 (F := Ideal) t) (k0_pay5 (F := Ideal) t)) slices_S256x256_o0_64_S256x64)
        (readB (F := Ideal) rB1 G) (constant S256x256 .f32 0x00000000#32)) := rfl
  rw [e, addf_apply, shapeCast_self, mm_band]
  congr 1
  exact Finset.sum_congr rfl fun l _ => by rw [cols_at t hv 64 (by omega), band1_at G g hG]

theorem acc3_at (hv : Valid t) (i h : Fin 256) :
    acc3 (F := Ideal) t G (ix2 i h) = acc2 (F := Ideal) t G (ix2 i h) + ∑ l : Fin 64, sel t i (64 * 2 + l.val) * g (64 * 2 + l.val) h := by
  have e : acc3 (F := Ideal) t G = addf (shapeCast S256x256 (acc2 (F := Ideal) t G) shapeCasts_S256x256_S256x256)
      (matmul dot_S256x64_S64x256_S256x256_1_0_0_1_n_n none (extractStridedSlice S256x64 ![0, 128]
        (k0_pay10 (F := Ideal) (k0_pay4 (F := Ideal) t) (k0_pay5 (F := Ideal) t)) slices_S256x256_o0_128_S256x64)
        (readB (F := Ideal) rB2 G) (constant S256x256 .f32 0x00000000#32)) := rfl
  rw [e, addf_apply, shapeCast_self, mm_band]
  congr 1
  exact Finset.sum_congr rfl fun l _ => by rw [cols_at t hv 128 (by omega), band2_at G g hG]

theorem out_at (hv : Valid t) (i h : Fin 256) :
    outOf (F := Ideal) t G (ix2 i h) = acc3 (F := Ideal) t G (ix2 i h) + ∑ l : Fin 64, sel t i (64 * 3 + l.val) * g (64 * 3 + l.val) h := by
  have e : outOf (F := Ideal) t G = addf (shapeCast S256x256 (acc3 (F := Ideal) t G) shapeCasts_S256x256_S256x256)
      (matmul dot_S256x64_S64x256_S256x256_1_0_0_1_n_n none (extractStridedSlice S256x64 ![0, 192]
        (k0_pay10 (F := Ideal) (k0_pay4 (F := Ideal) t) (k0_pay5 (F := Ideal) t)) slices_S256x256_o0_192_S256x64)
        (readB (F := Ideal) rB3 G) (constant S256x256 .f32 0x00000000#32)) := rfl
  rw [e, addf_apply, shapeCast_self, mm_band]
  congr 1
  exact Finset.sum_congr rfl fun l _ => by rw [cols_at t hv 192 (by omega), band3_at G g hG]

omit hG in
/-- The four bands of the shared rows give the specification's row. -/
theorem out_value (hv : Valid t) (W : (⟨3, ![8, 128, 256]⟩ : Shape).Idx → EReal)
    (hG : ∀ s h : Fin 256, G (ix2 s h) = shared t x W s.val h) (i h : Fin 256) :
    outOf (F := Ideal) t G (ix2 i h) = value t x W i h := by
  rw [out_at t G (shared t x W) hG hv, acc3_at t G (shared t x W) hG hv, acc2_at t G (shared t x W) hG hv,
    acc1_at t G (shared t x W) hG hv]
  exact sum_bands t hv x W i h

end Cert.KernelIdeal.Moe

end
-- ==== Proof.RefValue.lean ====
module

public import proofs.«01_k».proof.Proof.Gen.ReferenceIdeal.Read
public import proofs.«01_k».proof.Proof.Spec
public import Idealize.ShloMosaic.Lib.StableHlo.Predicate

@[expose] public section

noncomputable section

/-! # The reference's value is the specification's

The reference counts the earlier tokens of the same expert as a word, keeps a token whose count is below 25, and
gathers the token's matrix by its expert number. -/

namespace Cert.ReferenceIdeal.Moe

open Cert.ReferenceIdeal Cert.ReferenceIdeal.Gen Cert.ReferenceIdeal.Read
open Idealize.ShloMosaic Idealize.ShloMosaic.ValueIdx Cert.Moe
open Idealize.ShloMosaic.StableHlo
open scoped BigOperators

/-- Where a row of start indices names member `b` of the table, the gather reads that member. -/
theorem gather_member {α : Type} (x : S8x128x256.Idx → α) (idx : IVec S256x1 32) (i : Fin 256) (k : Fin 128) (h : Fin 256)
    (b : Fin 8) (hb : idx (ix2 i (0 : Fin 1)) = BitVec.ofNat 32 b.val) :
    Host.gather gather_S8x128x256_S256x1_S256x128x256_12_0_n_n_0_1_1128256 x idx (ix3 i k h) = x (ix3 b k h) := by
  unfold Host.gather
  refine congrArg x (funext fun a => Fin.ext ?_)
  match a with
  | ⟨0, _⟩ =>
    show GatherDims.start gather_S8x128x256_S256x1_S256x128x256_12_0_n_n_0_1_1128256 (ix3 i k h) idx 0 + GatherDims.batchCoord gather_S8x128x256_S256x1_S256x128x256_12_0_n_n_0_1_1128256 (ix3 i k h) 0
      + GatherDims.offCoord gather_S8x128x256_S256x1_S256x128x256_12_0_n_n_0_1_1128256 (ix3 i k h) 0 = b.val
    rw [GatherDims.batchCoord_eq_zero _ _ _ List.not_mem_nil,
      GatherDims.offCoord_eq_zero _ _ _ (fun hh => ((GatherDims.mem_sKept _ _).mp hh).1 (List.mem_singleton.mpr rfl))]
    simp only [Nat.add_zero]
    unfold GatherDims.start
    rw [dif_pos (show (0 : Fin 3) ∈ gather_S8x128x256_S256x1_S256x128x256_12_0_n_n_0_1_1128256.startIndexMap from List.mem_singleton.mpr rfl)]
    have hsi : gather_S8x128x256_S256x1_S256x128x256_12_0_n_n_0_1_1128256.siIdx (ix3 i k h) ⟨List.idxOf (0 : Fin 3) gather_S8x128x256_S256x1_S256x128x256_12_0_n_n_0_1_1128256.startIndexMap,
        List.idxOf_lt_length_iff.2 (List.mem_singleton.mpr rfl)⟩ = ix2 i (0 : Fin 1) := by
      funext b'; refine Fin.ext ?_
      match b' with
      | ⟨0, _⟩ => rfl
      | ⟨1, _⟩ => rfl
    rw [hsi, hb]
    have hlt := b.isLt
    show min (BitVec.ofNat 32 b.val).toInt.toNat 7 = b.val
    rw [Predicate.toInt_ofNat_small _ (by omega)]
    omega
  | ⟨1, _⟩ =>
    show 0 + 0 + k.val = k.val
    omega
  | ⟨2, _⟩ =>
    show 0 + 0 + h.val = h.val
    omega

variable (x : S256x128.Idx → EReal) (t : Routes) (W : S8x128x256.Idx → EReal)

theorem v0_at (i : S256.Idx) : val_main_v0 (F := Ideal) t i = expert t (i 0) := by
  rw [val_main_v0_apply]
  unfold expert
  congr 1
  funext a
  match a with
  | ⟨0, _⟩ => exact Fin.ext (Nat.div_one _)
  | ⟨1, _⟩ => rfl

/-- The bit of row `i`, column `k`: token `k` is before `i` and names its expert. -/
theorem v12_at (i k : Fin 256) :
    val_main_v12 (F := Ideal) t (ix2 i k) = 1#1 ↔ (expert t k = expert t i ∧ k < i) := by
  rw [val_main_v12_apply, val_main_v6_apply, val_main_v11_apply, val_main_v4_apply, val_main_v2_apply, val_main_v5_apply,
    val_main_v3_apply, val_main_v9_apply, val_main_v7_apply, val_main_v10_apply, val_main_v8_apply, v0_at, v0_at,
    val_main_v1_apply, val_main_v1_apply]
  show IntOp.andi (IntOp.cmpi .eq (expert t k) (expert t i)) (IntOp.cmpi .slt (BitVec.ofNat 32 k.val) (BitVec.ofNat 32 i.val)) = 1#1 ↔ _
  have h1 : IntOp.cmpi .eq (expert t k) (expert t i) = 1#1 ↔ expert t k = expert t i := Predicate.cmpi_eq_iff
  have h2 : IntOp.cmpi .slt (BitVec.ofNat 32 k.val) (BitVec.ofNat 32 i.val) = 1#1 ↔ k < i :=
    Predicate.slt_ofNat_iff _ _ (by omega) (by omega)
  rw [← h1, ← h2]
  generalize IntOp.cmpi .eq (expert t k) (expert t i) = a
  generalize IntOp.cmpi .slt (BitVec.ofNat 32 k.val) (BitVec.ofNat 32 i.val) = b
  revert a b
  decide

theorem v14_at (i : S256.Idx) : (val_main_v14 (F := Ideal) t i).toNat = earlier t (i 0) := by
  unfold val_main_v14 val_main_v13 val_main_c
  rw [Predicate.toNat_reduce_count_cols (by norm_num)]
  unfold earlier
  congr 1
  ext k
  simp only [Finset.mem_filter, Finset.mem_univ, true_and]
  exact v12_at t (i 0) k

theorem v16_at (i : S256.Idx) : val_main_v16 (F := Ideal) t i = 1#1 ↔ cnt t (i 0) ≤ 25 := by
  rw [val_main_v16_apply, val_main_v15_apply, val_main_c_0_apply]
  have hc := cnt_eq t (i 0)
  have hl := cnt_le t (i 0)
  have hn := v14_at t i
  rw [show IntOp.cmpi .slt (val_main_v14 (F := Ideal) t i) 25#32 = 1#1 ↔ _ from
    Predicate.slt_iff_toNat (by omega) (by decide), hn, hc]
  show earlier t (i 0) < 25 ↔ _
  omega

theorem v21_at (hv : Valid t) (i : S256.Idx) : val_main_v21 (F := Ideal) t i = expert t (i 0) := by
  rw [val_main_v21_apply, val_main_v18_apply, val_main_v17_apply, val_main_c_1_apply, v0_at]
  have h := hv (i 0)
  have hz : IntOp.cmpi .slt (expert t (i 0)) 0#32 = 0#1 := by
    refine eq_zero_of_ne_one fun hh => ?_
    rw [Predicate.slt_iff_toNat (by omega) (by decide)] at hh
    exact absurd hh (Nat.not_lt_zero _)
  rw [hz]
  rfl

theorem v23_at (hv : Valid t) (i : Fin 256) (k : Fin 128) (h : Fin 256) :
    val_main_v23 (F := Ideal) t W (ix3 i k h)
      = W (ix3 (⟨(expert t i).toNat % 8, Nat.mod_lt _ (by decide)⟩ : Fin 8) k h) := by
  unfold val_main_v23
  refine gather_member W _ i k h _ ?_
  rw [val_main_v22_apply, v21_at t hv]
  have := hv i
  refine BitVec.eq_of_toNat_eq ?_
  rw [BitVec.toNat_ofNat]
  show (expert t i).toNat = _
  simp only [Nat.mod_eq_of_lt this]
  omega

/-- The reference's result at row `i`, column `h`. -/
theorem reference_value (hv : Valid t) (i h : Fin 256) :
    val_main_v28 (F := Ideal) x t W (ix2 i h) = value t x W i h := by
  rw [val_main_v28_apply, val_main_call0_v1_apply, val_main_v27_apply, val_main_call0_v2_apply, val_main_call0_v0_apply,
    val_main_cst_apply, val_main_v26_apply]
  unfold value
  have hb := v16_at t (idx_main_v27 (idx_main_call0_v1 (ix2 i h)))
  have hi : (idx_main_v27 (idx_main_call0_v1 (ix2 i h))) 0 = i := rfl
  rw [hi] at hb
  by_cases hc : cnt t i ≤ 25
  · rw [hb.2 hc, if_pos hc, select_one]
    refine Finset.sum_congr rfl fun k _ => ?_
    rw [val_main_v25_apply, val_main_v24_apply]
    have e1 : lidx_main_v26 (ix2 i h) k = ix2 i k := by
      funext a
      match a with
      | ⟨0, _⟩ => rfl
      | ⟨1, _⟩ => rfl
    have e2 : ridx_main_v26 (ix2 i h) k = ix3 i k h := by
      funext a
      match a with
      | ⟨0, _⟩ => rfl
      | ⟨1, _⟩ => rfl
      | ⟨2, _⟩ => rfl
    rw [e1, e2, v23_at t W hv]
    rfl
  · rw [eq_zero_of_ne_one fun hh => hc (hb.1 hh), if_neg hc, select_zero]
    exact Ideal.ofBits_zero_f32

end Cert.ReferenceIdeal.Moe

end
-- ==== Proof.Value.lean ====
module

public import proofs.«01_k».proof.Defs
public import proofs.«01_k».proof.Proof.Gen.Pre_experts_exist_KernelIdeal
public import proofs.«01_k».proof.Proof.KerValue
public import proofs.«01_k».proof.Proof.RefValue
public import Idealize.ShloMosaic.Adequacy

@[expose] public section

noncomputable section

/-! # The kernel's result is the reference's

The precondition says every route is an expert's number. Given it, the shared buffer holds the specification's rows, so
every device's result is the specification's, which is the reference's. -/

namespace Cert.Proof

open Idealize.ShloMosaic Idealize.ShloMosaic.ValueIdx Idealize.SL.Sem Cert.Moe
open Idealize.ShloMosaic.TcCoe
open Idealize.ShloMosaic.StableHlo
open scoped BigOperators

/-! ## The precondition -/

theorem and_bits (a b : BitVec 1) : IntOp.andi a b = 1#1 ↔ (a = 1#1 ∧ b = 1#1) := by revert a b; decide

/-- A fold by conjunction that ends in one has met only ones. -/
theorem fold_ones {ι : Type} (f : ι → BitVec 1) (S : Finset ι) (h : S.fold IntOp.andi (1#1) f = 1#1) : ∀ i ∈ S, f i = 1#1 := by
  classical
  induction S using Finset.induction_on with
  | empty => exact fun i hi => absurd hi (Finset.notMem_empty i)
  | insert a S ha ih =>
    rw [Finset.fold_insert ha, and_bits] at h
    intro i hi
    rcases Finset.mem_insert.1 hi with rfl | hi
    · exact h.1
    · exact ih h.2 i hi

section Pre
open Cert.Pre_experts_exist_KernelIdeal Cert.Pre_experts_exist_KernelIdeal.Gen

/-- The printed precondition at the array of routes says that every route is below eight. -/
theorem valid_of_pre (a0 : FVec Ideal S256x128 .bf16) (a1 : FVec Ideal S128x8 .bf16) (t : IVec S256x1 32)
    (a3 : FVec Ideal S2x128x256 .bf16) (h : fn (F := Ideal) a0 a1 t a3 = fun _ => 1#1) : Valid t := by
  intro i
  have h0 := congrFun h ix0
  unfold fn at h0
  dsimp only at h0
  rw [Host.reduce_eq_fold] at h0
  have hm := fold_ones _ _ h0 (ix2 i (0 : Fin 1)) (Finset.mem_filter.2 ⟨Finset.mem_univ _, (eq_ix0 _).trans (eq_ix0 _).symm⟩)
  have hm' : IntOp.andi (IntOp.cmpi .sge (expert t i) 0#32) (IntOp.cmpi .slt (expert t i) 8#32) = 1#1 := hm
  obtain ⟨h1, h2⟩ := (and_bits _ _).1 hm'
  unfold IntOp.cmpi at h1 h2
  rw [Predicate.ofBool_eq_one_iff] at h1 h2
  simp only [BitVec.sle, BitVec.slt, decide_eq_true_eq] at h1 h2
  have e0 : (0#32).toInt = 0 := by decide
  have e8 : (8#32).toInt = 8 := by decide
  rw [e0] at h1
  rw [e8] at h2
  rw [BitVec.toInt_eq_toNat_cond] at h1 h2
  have hlt := (expert t i).isLt
  split at h1 <;> omega

end Pre

/-! ## The shared buffer -/

section Shared
open Cert.KernelIdeal Cert.KernelIdeal.Gen Cert.KernelIdeal.Moe

variable (m : (ℓ : Loc nD τ sig) → Buf (Elt Ideal) ℓ) (ρ : Dev nD → PrngReg)
variable (x : Vec Ideal S256x128 .bf16) (t : Vec Ideal S256x1 .i32) (W : (⟨3, ![8, 128, 256]⟩ : Shape).Idx → EReal)

/-- A device's two matrices among the eight. -/
theorem block_at (c : Dev nD) (e : Fin 2) (k : Fin 128) (h : Fin 256) (b : Fin 8) (hb : b.val = 2 * c.val + e.val) :
    Layout.block ⟨3, ![2, 128, 256]⟩ ⟨3, ![8, 128, 256]⟩ 0 4 c W (by decide) (ix3 e k h) = W (ix3 b k h) := by
  rw [Layout.block_apply]
  refine congrArg W (funext fun a => Fin.ext ?_)
  match a with
  | ⟨0, _⟩ => show c.val * 2 + e.val = b.val; omega
  | ⟨1, _⟩ => rfl
  | ⟨2, _⟩ => rfl

theorem gAll_at (hx : ∀ c, xst m ρ c = x) (ht : ∀ c, tst m ρ c = t)
    (hw : ∀ c, wst m ρ c = Layout.block ⟨3, ![2, 128, 256]⟩ ⟨3, ![8, 128, 256]⟩ 0 4 c W (by decide))
    (hv : Valid t) (s h : Fin 256) : gAll (F := Ideal) m ρ (ix2 s h) = shared t x W s.val h := by
  have hs := s.isLt
  have hh : halfIdx (ix2 s h) = ix2 (⟨s.val % 32, Nat.mod_lt _ (by decide)⟩ : Fin 32) h := by
    funext a
    match a with
    | ⟨0, _⟩ => rfl
    | ⟨1, _⟩ => rfl
  have ho : (ownerOf (ix2 s h)).val = s.val / 64 := rfl
  unfold gAll shared
  rw [hx, ht, hw, hh]
  show (if s.val % 64 < 32 then _ else _) = _
  by_cases hlt : s.val % 64 < 32
  · rw [if_pos hlt, top_at _ _ _ hv]
    refine Finset.sum_congr rfl fun k _ => ?_
    rw [block_at W _ _ k h (⟨s.val / 32 % 8, Nat.mod_lt _ (by decide)⟩ : Fin 8) (by
      rw [ho]; show s.val / 32 % 8 = 2 * (s.val / 64) + 0; omega), ho]
    have e : 64 * (s.val / 64) + s.val % 32 = s.val := by omega
    simp only [e]
  · rw [if_neg hlt, bot_at _ _ _ hv]
    refine Finset.sum_congr rfl fun k _ => ?_
    rw [block_at W _ _ k h (⟨s.val / 32 % 8, Nat.mod_lt _ (by decide)⟩ : Fin 8) (by
      rw [ho]; show s.val / 32 % 8 = 2 * (s.val / 64) + 1; omega), ho]
    have e : 64 * (s.val / 64) + (32 + s.val % 32) = s.val := by omega
    simp only [e]

theorem outAt_at (hx : ∀ c, xst m ρ c = x) (ht : ∀ c, tst m ρ c = t)
    (hw : ∀ c, wst m ρ c = Layout.block ⟨3, ![2, 128, 256]⟩ ⟨3, ![8, 128, 256]⟩ 0 4 c W (by decide))
    (hv : Valid t) (c : Dev nD) (i h : Fin 256) : outAt (F := Ideal) m ρ c (ix2 i h) = value t x W i h := by
  unfold outAt
  rw [ht]
  exact out_value t x _ hv W (gAll_at m ρ x t W hx ht hw hv) i h

end Shared

/-- From arguments that agree, with every route an expert's number, every device's result is the reference's. -/
theorem value_claim : Cert.algebraic_KernelIdeal_ReferenceIdeal_pre_experts_exist_KernelIdeal := by
  intro m g m' g' hpre hargs
  have hx : ∀ c, Cert.KernelIdeal.Moe.xst m g c = m' (((0 : Dev Cert.ReferenceIdeal.nD) : Thread Cert.ReferenceIdeal.nD Cert.ReferenceIdeal.τ).loc Cert.ReferenceIdeal.main_arg0) :=
    fun c => (Cert.KernelIdeal.Moe.xst_eq m g c).trans (hargs c).1
  have ht : ∀ c, Cert.KernelIdeal.Moe.tst m g c = m' (((0 : Dev Cert.ReferenceIdeal.nD) : Thread Cert.ReferenceIdeal.nD Cert.ReferenceIdeal.τ).loc Cert.ReferenceIdeal.main_arg2) :=
    fun c => (Cert.KernelIdeal.Moe.tst_eq m g c).trans (hargs c).2.2.1
  have hw := fun c => (Cert.KernelIdeal.Moe.wst_eq m g c).trans (hargs c).2.2.2
  have hv : Valid (m' (((0 : Dev Cert.ReferenceIdeal.nD) : Thread Cert.ReferenceIdeal.nD Cert.ReferenceIdeal.τ).loc Cert.ReferenceIdeal.main_arg2)) := by
    have h := valid_of_pre _ _ _ _ (hpre 0)
    rw [(hargs 0).2.2.1] at h
    exact h
  refine ⟨Cert.ReferenceIdeal.Read.val_main_v28 (F := Ideal)
    (m' (((0 : Dev Cert.ReferenceIdeal.nD) : Thread Cert.ReferenceIdeal.nD Cert.ReferenceIdeal.τ).loc Cert.ReferenceIdeal.main_arg0))
    (m' (((0 : Dev Cert.ReferenceIdeal.nD) : Thread Cert.ReferenceIdeal.nD Cert.ReferenceIdeal.τ).loc Cert.ReferenceIdeal.main_arg2))
    (m' (((0 : Dev Cert.ReferenceIdeal.nD) : Thread Cert.ReferenceIdeal.nD Cert.ReferenceIdeal.τ).loc Cert.ReferenceIdeal.main_arg3)), ?_, ?_⟩
  · refine (θ_run _ _ _).mono (fun r hr c => ⟨?_, (hr.1 c).2⟩) (Cert.KernelIdeal.Moe.run_main m g)
    refine (hr.1 c).1.trans (funext fun i => ?_)
    rw [eq_ix2 i]
    exact (outAt_at m g _ _ _ hx ht hw hv c (i 0) (i 1)).trans (Cert.ReferenceIdeal.Moe.reference_value _ _ _ hv (i 0) (i 1)).symm
  · exact (θ_run _ _ _).mono (fun r hr => ⟨(hr 0).1.trans (Cert.ReferenceIdeal.Read.val_main_v28_eq _ _ _), (hr 0).2⟩)
      (Cert.ReferenceIdeal.Value.run m' g')

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_experts_exist_KernelIdeal
public import proofs.«01_k».proof.Proof.Gen.Pre_experts_exist_ReferenceIdeal
public import proofs.«01_k».proof.Proof.Frames
public import proofs.«01_k».proof.Proof.Value
public import Idealize.ShloMosaic.Adequacy
public import Idealize.ShloMosaic.Init

@[expose] public section

noncomputable section

/-! # The certificate: its claims, from the modules that prove them -/

namespace Cert.Proof

open Idealize.ShloMosaic Idealize.SL.Sem

theorem claim : Cert.Claim :=
  ⟨Cert.Kernel.Gen.facts, Cert.KernelIdeal.Gen.facts, Cert.ReferenceIdeal.Gen.facts, Cert.Pre_experts_exist_KernelIdeal.Gen.facts, Cert.Pre_experts_exist_ReferenceIdeal.Gen.facts,
    frame_kernel, frame_ideal, fun m ρ _ => frame_ideal m ρ trivial, frame_reference, fun m ρ _ => frame_reference m ρ trivial, trivial, value_claim⟩

end Cert.Proof

end
